-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S4x1024x64 : Shape := ⟨3, ![4, 1024, 64]⟩
abbrev S_ : Shape := ⟨0, ![]⟩
abbrev S4x1024 : Shape := ⟨2, ![4, 1024]⟩
abbrev S4096x4096 : Shape := ⟨2, ![4096, 4096]⟩
abbrev S256x64 : Shape := ⟨2, ![256, 64]⟩
abbrev S256x4096 : Shape := ⟨2, ![256, 4096]⟩
abbrev S256x1024 : Shape := ⟨2, ![256, 1024]⟩
abbrev S1x1024x64 : Shape := ⟨3, ![1, 1024, 64]⟩
abbrev S1024x64 : Shape := ⟨2, ![1024, 64]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S4096x4x1024 : Shape := ⟨3, ![4096, 4, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S4x1024x64, .f32⟩
  | .hbm, ⟨2, _⟩ => ⟨S4x1024x64, .bf16⟩
  | .hbm, ⟨3, _⟩ => ⟨S4x1024x64, .f32⟩
  | .hbm, ⟨4, _⟩ => ⟨S4x1024x64, .f32⟩
  | .hbm, ⟨5, _⟩ => ⟨S_, .f32⟩
  | .hbm, ⟨6, _⟩ => ⟨S4x1024, .f32⟩
  | .hbm, ⟨7, _⟩ => ⟨S4096x4096, .f32⟩
  | .hbm, ⟨8, _⟩ => ⟨S4096x4096, .f32⟩
  | .hbm, ⟨9, _⟩ => ⟨S4096x4x1024, .f32⟩
  | .hbm, ⟨10, _⟩ => ⟨S4096x4x1024, .f32⟩
  | .local _ .vmem, ⟨0, _⟩ => ⟨S256x64, .f32⟩
  | .local _ .vmem, ⟨1, _⟩ => ⟨S256x64, .f32⟩
  | .local _ .vmem, ⟨2, _⟩ => ⟨S4x1024x64, .bf16⟩
  | .local _ .vmem, ⟨3, _⟩ => ⟨S4x1024, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x64 : Shape := ⟨2, ![4096, 64]⟩
abbrev S4x1024x64 : Shape := ⟨3, ![4, 1024, 64]⟩
abbrev S1x1024x64 : Shape := ⟨3, ![1, 1024, 64]⟩
abbrev S1024x64 : Shape := ⟨2, ![1024, 64]⟩
abbrev S_ : Shape := ⟨0, ![]⟩
abbrev S4096 : Shape := ⟨1, ![4096]⟩
abbrev S4096x1 : Shape := ⟨2, ![4096, 1]⟩
abbrev S64x1024 : Shape := ⟨2, ![64, 1024]⟩
abbrev S4096x1024 : Shape := ⟨2, ![4096, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4096x4 : Shape := ⟨2, ![4096, 4]⟩
abbrev S4096x4x1 : Shape := ⟨3, ![4096, 4, 1]⟩
abbrev S1x1x1024 : Shape := ⟨3, ![1, 1, 1024]⟩
abbrev S4096x4x1024 : Shape := ⟨3, ![4096, 4, 1024]⟩

abbrev nBuf : Space → Nat
  | .hbm => 222
  | .vmem => 0
  | .smem => 0
  | _ => 0

abbrev hbmTy0_0 (i : Nat) : BufTy := match i % 128 with
  | 0 => ⟨S4096x64, .f32⟩
  | 1 => ⟨S4x1024x64, .f32⟩
  | 2 => ⟨S4096x64, .bf16⟩
  | 3 => ⟨S4x1024x64, .bf16⟩
  | 4 => ⟨S1x1024x64, .bf16⟩
  | 5 => ⟨S1024x64, .bf16⟩
  | 6 => ⟨S4096x64, .f32⟩
  | 7 => ⟨S1024x64, .f32⟩
  | 8 => ⟨S4096x64, .f32⟩
  | 9 => ⟨S_, .f32⟩
  | 10 => ⟨S4096, .f32⟩
  | 11 => ⟨S4096x1, .f32⟩
  | 12 => ⟨S64x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S4096x1024, .f32⟩
  | 19 => ⟨S1024x64, .f32⟩
  | 20 => ⟨S_, .f32⟩
  | 21 => ⟨S1024, .f32⟩
  | 22 => ⟨S1x1024, .f32⟩
  | 23 => ⟨S4096x1024, .f32⟩
  | 24 => ⟨S4096x1024, .f32⟩
  | 25 => ⟨S4096x1024, .i32⟩
  | 26 => ⟨S_, .f32⟩
  | 27 => ⟨S_, .i32⟩
  | 28 => ⟨S4096, .f32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S1, .i32⟩
  | 39 => ⟨S_, .i32⟩
  | 40 => ⟨S4096x1, .i32⟩
  | 41 => ⟨S4096x1, .i1⟩
  | 42 => ⟨S1x1, .i32⟩
  | 43 => ⟨S4096x1, .i32⟩
  | 44 => ⟨S4096x1, .i1⟩
  | 45 => ⟨S4096x1, .i1⟩
  | 46 => ⟨S_, .i1⟩
  | 47 => ⟨S4096, .i1⟩
  | 48 => ⟨S4096x64, .bf16⟩
  | 49 => ⟨S4096x64, .i1⟩
  | 50 => ⟨S_, .bf16⟩
  | 51 => ⟨S4096x64, .bf16⟩
  | 52 => ⟨S4096x64, .bf16⟩
  | 53 => ⟨S4096x64, .bf16⟩
  | 54 => ⟨S1x1024x64, .bf16⟩
  | 55 => ⟨S1024x64, .bf16⟩
  | 56 => ⟨S4096x64, .f32⟩
  | 57 => ⟨S1024x64, .f32⟩
  | 58 => ⟨S4096x64, .f32⟩
  | 59 => ⟨S_, .f32⟩
  | 60 => ⟨S4096, .f32⟩
  | 61 => ⟨S4096x1, .f32⟩
  | 62 => ⟨S64x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S1024x64, .f32⟩
  | 70 => ⟨S_, .f32⟩
  | 71 => ⟨S1024, .f32⟩
  | 72 => ⟨S1x1024, .f32⟩
  | 73 => ⟨S4096x1024, .f32⟩
  | 74 => ⟨S4096x1024, .f32⟩
  | 75 => ⟨S4096x1024, .i32⟩
  | 76 => ⟨S_, .f32⟩
  | 77 => ⟨S_, .i32⟩
  | 78 => ⟨S4096, .f32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S1, .i32⟩
  | 89 => ⟨S_, .i32⟩
  | 90 => ⟨S4096x1, .i32⟩
  | 91 => ⟨S4096x1, .i1⟩
  | 92 => ⟨S1x1, .i32⟩
  | 93 => ⟨S4096x1, .i32⟩
  | 94 => ⟨S4096x1, .i1⟩
  | 95 => ⟨S4096x1, .i1⟩
  | 96 => ⟨S_, .i1⟩
  | 97 => ⟨S4096, .i1⟩
  | 98 => ⟨S4096x64, .bf16⟩
  | 99 => ⟨S4096x64, .i1⟩
  | 100 => ⟨S_, .bf16⟩
  | 101 => ⟨S4096x64, .bf16⟩
  | 102 => ⟨S4096x64, .bf16⟩
  | 103 => ⟨S4096x64, .bf16⟩
  | 104 => ⟨S1x1024x64, .bf16⟩
  | 105 => ⟨S1024x64, .bf16⟩
  | 106 => ⟨S4096x64, .f32⟩
  | 107 => ⟨S1024x64, .f32⟩
  | 108 => ⟨S4096x64, .f32⟩
  | 109 => ⟨S_, .f32⟩
  | 110 => ⟨S4096, .f32⟩
  | 111 => ⟨S4096x1, .f32⟩
  | 112 => ⟨S64x1024, .f32⟩
  | 113 => ⟨S4096x1024, .f32⟩
  | 114 => ⟨S_, .f32⟩
  | 115 => ⟨S4096x1024, .f32⟩
  | 116 => ⟨S4096x1024, .f32⟩
  | 117 => ⟨S4096x1024, .f32⟩
  | 118 => ⟨S4096x1024, .f32⟩
  | 119 => ⟨S1024x64, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .i32⟩
  | 126 => ⟨S_, .f32⟩
  | 127 => ⟨S_, .i32⟩
  | _ => ⟨S4096x64, .f32⟩

abbrev hbmTy0_1 (i : Nat) : BufTy := match i % 128 with
  | 0 => ⟨S4096, .f32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S1, .i32⟩
  | 11 => ⟨S_, .i32⟩
  | 12 => ⟨S4096x1, .i32⟩
  | 13 => ⟨S4096x1, .i1⟩
  | 14 => ⟨S1x1, .i32⟩
  | 15 => ⟨S4096x1, .i32⟩
  | 16 => ⟨S4096x1, .i1⟩
  | 17 => ⟨S4096x1, .i1⟩
  | 18 => ⟨S_, .i1⟩
  | 19 => ⟨S4096, .i1⟩
  | 20 => ⟨S4096x64, .bf16⟩
  | 21 => ⟨S4096x64, .i1⟩
  | 22 => ⟨S_, .bf16⟩
  | 23 => ⟨S4096x64, .bf16⟩
  | 24 => ⟨S4096x64, .bf16⟩
  | 25 => ⟨S4096x64, .bf16⟩
  | 26 => ⟨S1x1024x64, .bf16⟩
  | 27 => ⟨S1024x64, .bf16⟩
  | 28 => ⟨S4096x64, .f32⟩
  | 29 => ⟨S1024x64, .f32⟩
  | 30 => ⟨S4096x64, .f32⟩
  | 31 => ⟨S_, .f32⟩
  | 32 => ⟨S4096, .f32⟩
  | 33 => ⟨S4096x1, .f32⟩
  | 34 => ⟨S64x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S1024x64, .f32⟩
  | 42 => ⟨S_, .f32⟩
  | 43 => ⟨S1024, .f32⟩
  | 44 => ⟨S1x1024, .f32⟩
  | 45 => ⟨S4096x1024, .f32⟩
  | 46 => ⟨S4096x1024, .f32⟩
  | 47 => ⟨S4096x1024, .i32⟩
  | 48 => ⟨S_, .f32⟩
  | 49 => ⟨S_, .i32⟩
  | 50 => ⟨S4096, .f32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S1, .i32⟩
  | 61 => ⟨S_, .i32⟩
  | 62 => ⟨S4096x1, .i32⟩
  | 63 => ⟨S4096x1, .i1⟩
  | 64 => ⟨S1x1, .i32⟩
  | 65 => ⟨S4096x1, .i32⟩
  | 66 => ⟨S4096x1, .i1⟩
  | 67 => ⟨S4096x1, .i1⟩
  | 68 => ⟨S_, .i1⟩
  | 69 => ⟨S4096, .i1⟩
  | 70 => ⟨S4096x64, .bf16⟩
  | 71 => ⟨S4096x64, .i1⟩
  | 72 => ⟨S_, .bf16⟩
  | 73 => ⟨S4096x64, .bf16⟩
  | 74 => ⟨S4096x64, .bf16⟩
  | 75 => ⟨S4096x64, .bf16⟩
  | 76 => ⟨S4096x1, .i32⟩
  | 77 => ⟨S4096x1, .i32⟩
  | 78 => ⟨S4096x1, .i32⟩
  | 79 => ⟨S4096x1, .i32⟩
  | 80 => ⟨S4096x4, .i32⟩
  | 81 => ⟨S4096x4x1, .i32⟩
  | 82 => ⟨S1x1x1024, .i32⟩
  | 83 => ⟨S4096x4x1024, .i32⟩
  | 84 => ⟨S4096x4x1024, .i32⟩
  | 85 => ⟨S4096x4x1024, .i1⟩
  | 86 => ⟨S4096x4x1024, .f32⟩
  | 87 => ⟨S_, .f32⟩
  | 88 => ⟨S4096x4x1024, .f32⟩
  | 89 => ⟨S4096x4x1024, .i1⟩
  | 90 => ⟨S_, .f32⟩
  | 91 => ⟨S_, .f32⟩
  | 92 => ⟨S4096x4x1024, .f32⟩
  | 93 => ⟨S4096x4x1024, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v20 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_v0 : Ref sig .tc := ⟨.hbm, 75, rfl⟩
abbrev main_call2_cst : Ref sig .tc := ⟨.hbm, 76, rfl⟩
abbrev main_call2_c : Ref sig .tc := ⟨.hbm, 77, rfl⟩
abbrev main_call2_v1_0 : Ref sig .tc := ⟨.hbm, 78, rfl⟩
abbrev main_v41 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_5 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_6 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_7 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_call4_v0 : Ref sig .tc := ⟨.hbm, 125, rfl⟩
abbrev main_call4_cst : Ref sig .tc := ⟨.hbm, 126, rfl⟩
abbrev main_call4_c : Ref sig .tc := ⟨.hbm, 127, rfl⟩
abbrev main_call4_v1_0 : Ref sig .tc := ⟨.hbm, 128, rfl⟩
abbrev main_v62 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_call5_cst : Ref sig .tc := ⟨.hbm, 150, rfl⟩
abbrev main_call5_v15 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_cst_8 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_cst_9 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_10 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_call6_v0 : Ref sig .tc := ⟨.hbm, 175, rfl⟩
abbrev main_call6_cst : Ref sig .tc := ⟨.hbm, 176, rfl⟩
abbrev main_call6_c : Ref sig .tc := ⟨.hbm, 177, rfl⟩
abbrev main_call6_v1_0 : Ref sig .tc := ⟨.hbm, 178, rfl⟩
abbrev main_v83 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_c_3 : Ref sig .tc := ⟨.hbm, 196, rfl⟩
abbrev main_call7_v12 : Ref sig .tc := ⟨.hbm, 197, rfl⟩
abbrev main_call7_v13 : Ref sig .tc := ⟨.hbm, 198, rfl⟩
abbrev main_call7_v14 : Ref sig .tc := ⟨.hbm, 199, rfl⟩
abbrev main_call7_cst : Ref sig .tc := ⟨.hbm, 200, rfl⟩
abbrev main_call7_v15 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_v91 : Ref sig .tc := ⟨.hbm, 214, rfl⟩
abbrev main_cst_11 : Ref sig .tc := ⟨.hbm, 215, rfl⟩
abbrev main_v92 : Ref sig .tc := ⟨.hbm, 216, rfl⟩
abbrev main_v93 : Ref sig .tc := ⟨.hbm, 217, rfl⟩
abbrev main_cst_12 : Ref sig .tc := ⟨.hbm, 218, rfl⟩
abbrev main_call9_v0 : Ref sig .tc := ⟨.hbm, 219, rfl⟩
abbrev main_call9_v1 : Ref sig .tc := ⟨.hbm, 220, rfl⟩
abbrev main_v94 : Ref sig .tc := ⟨.hbm, 221, rfl⟩

abbrev nD : Nat := 1
abbrev τ : Topo := Topo.v7x

variable {F : FTy → Type} [FloatOps F]
-- ==== Proof.Math.lean ====
/- The mathematics of one row, over the extended reals: squared distances to a codebook, the first nearest row, the residual
   it leaves, and the two ways of finding that row (the least index among the minima; a fold of (value, index) pairs). -/
module

public import proofs.«01_k».proof.Defs
public import Idealize.ShloMosaic.Lib.SortNet.Extract
public import Idealize.ShloMosaic.Lib.Pointwise
public import Idealize.ShloMosaic.PureOps.Ideal.Laws

@[expose] public section

noncomputable section

namespace Cert.Proof.Row

open Idealize.ShloMosaic

/-- The factor of the cross term, as both programs spell it. -/
abbrev two : EReal := Ideal.ofBits FTy.f32 1073741824#32

/-- The squared distance of `r` to row `k` of the codebook, expanded. -/
def dist (r : Fin 64 → EReal) (cb : Fin 1024 → Fin 64 → EReal) (k : Fin 1024) : EReal :=
  (∑ d, r d * r d) - two * (∑ d, r d * cb k d) + ∑ d, cb k d * cb k d

theorem exists_min (f : Fin 1024 → EReal) : (Finset.univ.filter fun k => ∀ l, f k ≤ f l).Nonempty := by
  obtain ⟨k, _, hk⟩ := Finset.exists_min_image Finset.univ f ⟨0, Finset.mem_univ _⟩
  exact ⟨k, by simpa using hk⟩

/-- The first index at which `f` is least. -/
def code (f : Fin 1024 → EReal) : Fin 1024 := (Finset.univ.filter fun k => ∀ l, f k ≤ f l).min' (exists_min f)

theorem code_le (f : Fin 1024 → EReal) (l : Fin 1024) : f (code f) ≤ f l := by
  have h := Finset.min'_mem _ (exists_min f)
  exact (Finset.mem_filter.mp h).2 l

theorem code_first (f : Fin 1024 → EReal) (k : Fin 1024) (h : ∀ l, f k ≤ f l) : code f ≤ k :=
  Finset.min'_le _ _ (Finset.mem_filter.mpr ⟨Finset.mem_univ _, h⟩)

/-- The residual that a level leaves: the row less its nearest codebook row. -/
def next (r : Fin 64 → EReal) (cb : Fin 1024 → Fin 64 → EReal) (d : Fin 64) : EReal := r d - cb (code (dist r cb)) d

/-- The residual before each level. -/
def res (x : Fin 64 → EReal) (cbs : Fin 4 → Fin 1024 → Fin 64 → EReal) : ℕ → Fin 64 → EReal
  | 0 => x
  | l + 1 => next (res x cbs l) (cbs (Fin.ofNat 4 l))

/-- The code of each level. -/
def codeAt (x : Fin 64 → EReal) (cbs : Fin 4 → Fin 1024 → Fin 64 → EReal) (l : Fin 4) : Fin 1024 :=
  code (dist (res x cbs l) (cbs l))

/-! ## By folds over the columns -/

theorem fold_min_code (f : Fin 1024 → EReal) : Finset.univ.fold min ⊤ f = f (code f) :=
  le_antisymm ((Finset.fold_min_le _).mpr (Or.inr ⟨_, Finset.mem_univ _, le_refl _⟩))
    ((Finset.le_fold_min _).mpr ⟨le_top, fun l _ => code_le f l⟩)

theorem toInt_ofNat (n : ℕ) (h : n ≤ 1024) : (BitVec.ofNat 32 n).toInt = n := by
  rw [BitVec.toInt_eq_toNat_cond, BitVec.toNat_ofNat]; omega

theorem ofNat_inj {a b : Fin 1024} (h : BitVec.ofNat 32 (a : ℕ) = BitVec.ofNat 32 (b : ℕ)) : a = b := by
  have := congrArg BitVec.toInt h
  rw [toInt_ofNat _ (le_of_lt a.isLt), toInt_ofNat _ (le_of_lt b.isLt)] at this
  exact Fin.ext (by exact_mod_cast this)

/-- The least index among those that satisfy `p`, by the signed minimum of words: others count as 1024. -/
theorem fold_minsi_first (p : Fin 1024 → Prop) [DecidablePred p] (c : Fin 1024) (hc : p c) (hm : ∀ k, p k → c ≤ k) :
    Finset.univ.fold IntOp.minsi 2147483647#32 (fun k : Fin 1024 => if p k then BitVec.ofNat 32 (k : ℕ) else 1024#32)
      = BitVec.ofNat 32 (c : ℕ) := by
  apply BitVec.eq_of_toInt_eq
  rw [← Finset.fold_hom (op' := (min : ℤ → ℤ → ℤ)) (m := BitVec.toInt) (hm := SortNet.toInt_minsi)]
  rw [toInt_ofNat _ (le_of_lt c.isLt)]
  apply le_antisymm
  · refine (Finset.fold_min_le _).mpr (Or.inr ⟨c, Finset.mem_univ _, ?_⟩)
    rw [if_pos hc, toInt_ofNat _ (le_of_lt c.isLt)]
  · have hl := c.isLt
    refine (Finset.le_fold_min _).mpr ⟨?_, fun k _ => ?_⟩
    · rw [show (2147483647#32 : BitVec 32).toInt = 2147483647 from rfl]; omega
    · split
      · next h => rw [toInt_ofNat _ (le_of_lt k.isLt)]; exact_mod_cast hm k h
      · rw [show (1024#32 : BitVec 32).toInt = 1024 from rfl]; omega

/-- The kernel's way to the code: the least index where the value is the minimum. -/
theorem fold_code (f : Fin 1024 → EReal) :
    Finset.univ.fold IntOp.minsi 2147483647#32
        (fun k : Fin 1024 => if f k = Finset.univ.fold min ⊤ f then BitVec.ofNat 32 (k : ℕ) else 1024#32)
      = BitVec.ofNat 32 (code f : ℕ) := by
  refine fold_minsi_first _ _ (fold_min_code f).symm fun k hk => code_first f k fun l => ?_
  rw [hk, fold_min_code]; exact code_le f l

/-! ## By a fold of pairs -/

/-- The order of the pairs: by value, then by signed index. -/
def Before (p q : EReal × BitVec 32) : Prop := p.1 < q.1 ∨ (p.1 = q.1 ∧ p.2.toInt ≤ q.2.toInt)

theorem Before.refl (p : EReal × BitVec 32) : Before p p := Or.inr ⟨rfl, le_refl _⟩

theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- An operation that gives the earlier of two pairs. -/
def Picks (R : EReal × BitVec 32 → EReal × BitVec 32 → EReal × BitVec 32) : Prop :=
  ∀ a b, (R a b = a ∨ R a b = b) ∧ Before (R a b) a ∧ Before (R a b) b

theorem foldl_picks {R : EReal × BitVec 32 → EReal × BitVec 32 → EReal × BitVec 32} (hR : Picks R)
    (L : List (EReal × BitVec 32)) (z : EReal × BitVec 32) :
    (L.foldl R z = z ∨ L.foldl R z ∈ L) ∧ Before (L.foldl R z) z ∧ ∀ p ∈ L, Before (L.foldl R z) p := by
  induction L generalizing z with
  | nil => exact ⟨Or.inl rfl, Before.refl z, fun p hp => absurd hp List.not_mem_nil⟩
  | cons a L ih =>
    obtain ⟨h1, h2, h3⟩ := ih (R z a)
    obtain ⟨k1, k2, k3⟩ := hR z a
    rw [List.foldl_cons]
    refine ⟨?_, h2.trans k2, fun p hp => ?_⟩
    · rcases h1 with h1 | h1
      · rw [h1]
        rcases k1 with k1 | k1
        · exact Or.inl k1
        · exact Or.inr (by rw [k1]; exact List.mem_cons_self)
      · exact Or.inr (List.mem_cons_of_mem _ h1)
    · rcases List.mem_cons.mp hp with rfl | hp
      · exact h2.trans k3
      · exact h3 p hp

/-- A list that holds the pairs of `f` and nothing else folds to the code. -/
theorem foldl_code {R : EReal × BitVec 32 → EReal × BitVec 32 → EReal × BitVec 32} (hR : Picks R)
    (L : List (EReal × BitVec 32)) (f : Fin 1024 → EReal)
    (hL : ∀ p, p ∈ L ↔ ∃ k : Fin 1024, p = (f k, BitVec.ofNat 32 (k : ℕ))) :
    (L.foldl R (⊤, 0#32)).2 = BitVec.ofNat 32 (code f : ℕ) := by
  obtain ⟨h1, _, h3⟩ := foldl_picks hR L (⊤, 0#32)
  have hall : ∀ k : Fin 1024, Before (L.foldl R (⊤, 0#32)) (f k, BitVec.ofNat 32 (k : ℕ)) := fun k => h3 _ ((hL _).mpr ⟨k, rfl⟩)
  rcases h1 with h1 | h1
  · rw [h1] at hall ⊢
    have ht : ∀ k, f k = ⊤ := fun k => by
      rcases hall k with h | ⟨h, _⟩
      · exact absurd h not_top_lt
      · exact h.symm
    have h0 : code f = 0 := le_antisymm (code_first f 0 fun l => by rw [ht, ht]) (Fin.zero_le _)
    rw [h0]; rfl
  · obtain ⟨k, hk⟩ := (hL _).mp h1
    rw [hk] at hall ⊢
    have hle : ∀ l, f k ≤ f l := fun l => by
      rcases hall l with h | ⟨h, _⟩
      · exact le_of_lt h
      · exact le_of_eq h
    have hk' : k ≤ code f := by
      rcases hall (code f) with h | ⟨_, h⟩
      · exact absurd h (not_lt.mpr (code_le f k))
      · rw [toInt_ofNat _ (le_of_lt k.isLt), toInt_ofNat _ (le_of_lt (code f).isLt)] at h
        exact_mod_cast h
    rw [le_antisymm hk' (code_first f k hle)]

/-- The reference's reducer gives the earlier pair. -/
theorem picks_reducer : Picks (Cert.ReferenceIdeal.reducer_argmin_f32_i32 (F := Ideal)) := by
  rintro ⟨a, i⟩ ⟨b, j⟩
  rcases lt_trichotomy a b with h | h | h
  · have e : Cert.ReferenceIdeal.reducer_argmin_f32_i32 (F := Ideal) (a, i) (b, j) = (a, i) := by
      simp [Cert.ReferenceIdeal.reducer_argmin_f32_i32, Ideal.cmpf_def, Ideal.cmp, IntOp.ori, IntOp.andi, Scalar.select, h, ne_of_lt h]
    rw [e]; exact ⟨Or.inl rfl, Before.refl _, Or.inl h⟩
  · subst h
    by_cases hij : i.toInt < j.toInt
    · have e : Cert.ReferenceIdeal.reducer_argmin_f32_i32 (F := Ideal) (a, i) (a, j) = (a, i) := by
        simp [Cert.ReferenceIdeal.reducer_argmin_f32_i32, Ideal.cmpf_def, Ideal.cmp, IntOp.ori, IntOp.andi, IntOp.cmpi, Scalar.select, BitVec.slt, hij]
      rw [e]; exact ⟨Or.inl rfl, Before.refl _, Or.inr ⟨rfl, le_of_lt hij⟩⟩
    · have e : Cert.ReferenceIdeal.reducer_argmin_f32_i32 (F := Ideal) (a, i) (a, j) = (a, j) := by
        simp [Cert.ReferenceIdeal.reducer_argmin_f32_i32, Ideal.cmpf_def, Ideal.cmp, IntOp.ori, IntOp.andi, IntOp.cmpi, Scalar.select, BitVec.slt, hij]
      rw [e]; exact ⟨Or.inr rfl, Or.inr ⟨rfl, not_lt.mp hij⟩, Before.refl _⟩
  · have e : Cert.ReferenceIdeal.reducer_argmin_f32_i32 (F := Ideal) (a, i) (b, j) = (b, j) := by
      simp [Cert.ReferenceIdeal.reducer_argmin_f32_i32, Ideal.cmpf_def, Ideal.cmp, IntOp.ori, IntOp.andi, Scalar.select, h, not_lt_of_gt h, ne_of_gt h]
    rw [e]; exact ⟨Or.inr rfl, Or.inl h, Before.refl _⟩

end Cert.Proof.Row

end
-- ==== Proof.ArgMin.lean ====
/- The reference's arg-min and its row lookup, at an element. -/
module

public import proofs.«01_k».proof.Proof.Math
public import Idealize.ShloMosaic.Lib.Routing.Ops

@[expose] public section

noncomputable section

namespace Cert.Proof.Row

open Idealize.ShloMosaic

/-- Plus infinity, as the arg-min's start spells it. -/
theorem ofBits_inf : Ideal.ofBits FTy.f32 0x7F800000#32 = ⊤ := by simp [Ideal.ofBits, Ideal.ieee]

/-- The start of the kernel's running minimum is above every value. -/
theorem ofBits_big : Ideal.ofBits FTy.f32 2139095040#32 = ⊤ := ofBits_inf

/-- The pairs an arg-min folds over at `j` are those of the source indices that drop to `j`. -/
theorem mem_fiber {α β : Type} {s t : Shape} {axes : List (Fin s.rank)} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩; exact ⟨s.rowMajor i, by simpa using hi, by simp⟩

/-- An arg-min over pairs whose members at `j` are the values `f k` beside their indices gives the first least index. -/
theorem argReduce_code {s t u : Shape} {axes : List (Fin s.rank)}
    {R : EReal × BitVec 32 → EReal × BitVec 32 → EReal × BitVec 32} (hR : Picks R)
    (x : FVec Ideal s .f32) (y : s.Idx → BitVec 32) (ix : u.Idx → EReal) (iy : u.Idx → BitVec 32)
    (h : s.ReducesTo axes t) (hu : 0 < u.numel) (j : t.Idx) (f : Fin 1024 → EReal)
    (hix : ∀ i, ix i = ⊤) (hiy : ∀ i, iy i = 0#32) (g : Fin 1024 → s.Idx) (hg : ∀ i, h.drop i = j ↔ ∃ k, i = g k)
    (hx : ∀ k, x (g k) = f k) (hy : ∀ k, y (g k) = BitVec.ofNat 32 (k : ℕ)) :
    (Host.argReduce (F := Ideal) (φ := .f32) R x y ix iy h hu j).2 = BitVec.ofNat 32 (code f : ℕ) := by
  rw [Ideal.argReduce_eq_reduce2, Host.reduce2_eq_foldl_fiber, hix, hiy]
  refine foldl_code hR _ f fun p => ?_
  rw [mem_fiber]
  constructor
  · rintro ⟨i, hi, rfl⟩
    obtain ⟨k, rfl⟩ := (hg i).mp hi
    exact ⟨k, by rw [hx, hy]⟩
  · rintro ⟨k, rfl⟩
    exact ⟨g k, (hg _).mpr ⟨k, rfl⟩, by rw [hx, hy]⟩

/-- A number below 1024 read as a signed word is not negative. -/
theorem not_neg (c : Fin 1024) : IntOp.cmpi .slt (BitVec.ofNat 32 (c : ℕ)) 0#32 = 0#1 := by
  have h : ¬ (BitVec.ofNat 32 (c : ℕ)).toInt < 0 := by rw [toInt_ofNat _ (le_of_lt c.isLt)]; omega
  simp [IntOp.cmpi, BitVec.slt, h]

/-- A number below 1024 is at least 0. -/
theorem ge_zero (c : Fin 1024) : IntOp.cmpi .sge (BitVec.ofNat 32 (c : ℕ)) 0#32 = 1#1 := by
  have h : 0 ≤ (BitVec.ofNat 32 (c : ℕ)).toInt := by rw [toInt_ofNat _ (le_of_lt c.isLt)]; omega
  simp [IntOp.cmpi, BitVec.sle, h]

/-- A number below 1024 is at most 1023. -/
theorem le_last (c : Fin 1024) : IntOp.cmpi .sle (BitVec.ofNat 32 (c : ℕ)) 1023#32 = 1#1 := by
  have h : (BitVec.ofNat 32 (c : ℕ)).toInt ≤ (1023#32 : BitVec 32).toInt := by
    have := c.isLt
    rw [toInt_ofNat _ (le_of_lt c.isLt)]; show (c : ℤ) ≤ 1023; omega
  simp only [IntOp.cmpi, BitVec.sle, h, decide_true]; rfl

/-- The comparison bit of a code and a column, as a number. -/
theorem hot_bit (a k : Fin 1024) :
    FloatOps.uitofp (F := Ideal) FTy.f32 (IntOp.cmpi .eq (BitVec.ofNat 32 (a : ℕ)) (BitVec.ofNat 32 (k : ℕ))) = if a = k then (1 : EReal) else 0 := by
  by_cases h : a = k
  · subst h
    rw [if_pos rfl, show IntOp.cmpi .eq (BitVec.ofNat 32 (a : ℕ)) (BitVec.ofNat 32 (a : ℕ)) = 1#1 by simp [IntOp.cmpi]]
    show (((1#1 : BitVec 1).toNat : ℝ) : EReal) = 1
    simp
  · have h' : ¬ BitVec.ofNat 32 (a : ℕ) = BitVec.ofNat 32 (k : ℕ) := fun e => h (ofNat_inj e)
    rw [if_neg h, show IntOp.cmpi .eq (BitVec.ofNat 32 (a : ℕ)) (BitVec.ofNat 32 (k : ℕ)) = 0#1 by
      rw [IntOp.cmpi, beq_eq_false_iff_ne.mpr h']; rfl]
    show (((0#1 : BitVec 1).toNat : ℝ) : EReal) = 0
    simp

/-- The bit of column `k` against the code `a`. -/
def bit (a k : Fin 1024) : BitVec 1 := if a = k then 1#1 else 0#1

/-- A column number compared with a code's number. -/
theorem cmp_bit (a k : Fin 1024) : IntOp.cmpi .eq (BitVec.ofNat 32 (k : ℕ)) (BitVec.ofNat 32 (a : ℕ)) = bit a k := by
  unfold bit
  by_cases h : a = k
  · subst h; simp [IntOp.cmpi]
  · have h' : ¬ BitVec.ofNat 32 (k : ℕ) = BitVec.ofNat 32 (a : ℕ) := fun e => h (ofNat_inj e).symm
    rw [if_neg h, IntOp.cmpi, beq_eq_false_iff_ne.mpr h']; rfl

/-- The bit widened and converted. -/
theorem wide_bit (a k : Fin 1024) :
    FloatOps.sitofp (F := Ideal) FTy.f32 (BitVec.setWidth 32 (bit a k)) = if a = k then (1 : EReal) else 0 := by
  unfold bit
  by_cases h : a = k
  · rw [if_pos h, if_pos h]
    show (((BitVec.setWidth 32 1#1).toInt : ℝ) : EReal) = 1
    rw [show (BitVec.setWidth 32 1#1).toInt = 1 by decide]; simp
  · rw [if_neg h, if_neg h]
    show (((BitVec.setWidth 32 0#1).toInt : ℝ) : EReal) = 0
    rw [show (BitVec.setWidth 32 0#1).toInt = 0 by decide]; simp

/-- The bit choosing between two values. -/
theorem select_bit {α : Type} (a k : Fin 1024) (x y : α) : Scalar.select (bit a k) x y = if a = k then x else y := by
  unfold bit
  by_cases h : a = k
  · rw [if_pos h, if_pos h]; rfl
  · rw [if_neg h, if_neg h]; rfl

/-- A one-hot row times a matrix is the row the code names. -/
theorem sum_bit (a : Fin 1024) (v : Fin 1024 → BitVec 1) (hv : ∀ k, v k = bit a k) (g : Fin 1024 → EReal) :
    ∑ k, FloatOps.sitofp (F := Ideal) FTy.f32 (BitVec.setWidth 32 (v k)) * g k = g a := by
  rw [Finset.sum_eq_single a]
  · rw [hv, wide_bit, if_pos rfl, one_mul]
  · intro k _ hk; rw [hv, wide_bit, if_neg (Ne.symm hk), zero_mul]
  · intro h; exact absurd (Finset.mem_univ a) h

/-- The least column number among those at which `f` is least, compared with a column number. -/
theorem bit_of (f : Fin 1024 → EReal) (k : Fin 1024) :
    IntOp.cmpi .eq (BitVec.ofNat 32 (k : ℕ)) (Finset.univ.fold IntOp.minsi 2147483647#32 (fun x : Fin 1024 =>
      if f x = Finset.univ.fold min (Ideal.ofBits FTy.f32 2139095040#32) f then BitVec.ofNat 32 (x : ℕ) else 1024#32)) = bit (code f) k := by
  rw [ofBits_big, fold_code, cmp_bit]

end Cert.Proof.Row

end
-- ==== Proof.Block.lean ====
/- What one block computes: the kernel's payloads at an element, over the mathematics of one row. -/
module

public import proofs.«01_k».proof.Proof.ArgMin
public import proofs.«01_k».proof.Proof.Gen.KernelIdeal.Frame
public import Idealize.ShloMosaic.Lib.Pipeline.ValueKit

@[expose] public section

set_option maxRecDepth 16384

noncomputable section

namespace Cert.Proof.Block

open Idealize.ShloMosaic Cert.KernelIdeal Cert.KernelIdeal.Gen Cert.Proof.Row

section Level

variable (r : Fin 64 → EReal) (B : Fin 1024 → Fin 64 → EReal) (i : Fin 256)

set_option maxHeartbeats 1600000 in
/-- Level 0's bits. -/
theorem pay7_at (v0 : Vec Ideal S256x64 .f32) (v2 : Vec Ideal S4x1024 .f32) (v5 : Vec Ideal S1x1024x64 .bf16)
    (hr : ∀ d, v0 (ix2 i d) = r d) (hB : ∀ k d, v5 (ix3 0 k d) = B k d) (hc : ∀ k, v2 (ix2 0 k) = ∑ d, B k d * B k d)
    (k : Fin 1024) : k0_pay7 v0 v2 v5 (ix2 i k) = bit (code (dist r B)) k := by
  pointwise [k0_pay7, k0_pay4, k0_pay5, k0_pay6]
  simp only [hr, hB, hc]
  exact bit_of (dist r B) k

set_option maxHeartbeats 1600000 in
/-- Level 0's residual. -/
theorem pay10_at (v1 : FVec Ideal S256x64 .bf16) (v6 : FVec Ideal S1024x64 .bf16) (v30 : IVec S256x1024 1) (a : Fin 1024)
    (hv : ∀ k, v30 (ix2 i k) = bit a k) (d : Fin 64) : k0_pay10 v1 v6 v30 (ix2 i d) = v1 (ix2 i d) - v6 (ix2 a d) := by
  pointwise [k0_pay10]
  exact congrArg _ (sum_bit a _ hv fun k => v6 (ix2 k d))

set_option maxHeartbeats 1600000 in
/-- Level 1's bits. -/
theorem pay12_at (v1 : FVec Ideal S256x64 .bf16) (v3 : FVec Ideal S4x1024 .f32) (v4 : IVec S256x1024 32)
    (v6 : FVec Ideal S1024x64 .bf16) (v30 : IVec S256x1024 1) (v44 : Vec Ideal S1x1024x64 .bf16)
    (hr : ∀ d, k0_pay10 v1 v6 v30 (ix2 i d) = r d) (hB : ∀ k d, v44 (ix3 0 k d) = B k d)
    (hc : ∀ k, v3 (ix2 1 k) = ∑ d, B k d * B k d) (h4 : ∀ k : Fin 1024, v4 (ix2 i k) = BitVec.ofNat 32 (k : ℕ))
    (k : Fin 1024) : k0_pay12 v1 v3 v4 v6 v30 v44 (ix2 i k) = bit (code (dist r B)) k := by
  unfold k0_pay12
  generalize k0_pay10 v1 v6 v30 = x at hr
  pointwise [k0_pay11]
  simp only [hr, hB, hc, h4]
  exact bit_of (dist r B) k

set_option maxHeartbeats 1600000 in
/-- Level 1's residual. -/
theorem pay16_at (v43 : FVec Ideal S256x64 .bf16) (v45 : FVec Ideal S1024x64 .bf16) (v79 : FVec Ideal S256x1024 .bf16) (a : Fin 1024)
    (hv : ∀ k, v79 (ix2 i k) = if a = k then (1 : EReal) else 0) (d : Fin 64) : k0_pay16 v43 v45 v79 (ix2 i d) = v43 (ix2 i d) - v45 (ix2 a d) := by
  pointwise [k0_pay16]
  simp [hv]

set_option maxHeartbeats 1600000 in
/-- Level 2's bits. -/
theorem pay18_at (v3 : FVec Ideal S4x1024 .f32) (v4 : IVec S256x1024 32) (v43 : FVec Ideal S256x64 .bf16)
    (v45 : FVec Ideal S1024x64 .bf16) (v79 : FVec Ideal S256x1024 .bf16) (v83 : Vec Ideal S1x1024x64 .bf16)
    (hr : ∀ d, k0_pay16 v43 v45 v79 (ix2 i d) = r d) (hB : ∀ k d, v83 (ix3 0 k d) = B k d)
    (hc : ∀ k, v3 (ix2 2 k) = ∑ d, B k d * B k d) (h4 : ∀ k : Fin 1024, v4 (ix2 i k) = BitVec.ofNat 32 (k : ℕ))
    (k : Fin 1024) : k0_pay18 v3 v4 v43 v45 v79 v83 (ix2 i k) = bit (code (dist r B)) k := by
  unfold k0_pay18
  generalize k0_pay16 v43 v45 v79 = x at hr
  pointwise [k0_pay17]
  simp only [hr, hB, hc, h4]
  exact bit_of (dist r B) k

set_option maxHeartbeats 1600000 in
/-- The codebook row level 2 subtracts. -/
theorem pay21_at (v3 : FVec Ideal S4x1024 .f32) (v4 : IVec S256x1024 32) (v43 : FVec Ideal S256x64 .bf16)
    (v45 : FVec Ideal S1024x64 .bf16) (v79 : FVec Ideal S256x1024 .bf16) (v83 : Vec Ideal S1x1024x64 .bf16) (a : Fin 1024)
    (hB : ∀ k d, v83 (ix3 0 k d) = B k d)
    (hv : ∀ k, k0_pay18 v3 v4 v43 v45 v79 v83 (ix2 i k) = bit a k) (d : Fin 64) : k0_pay21 v3 v4 v43 v45 v79 v83 (ix2 i d) = B a d := by
  unfold k0_pay21
  generalize k0_pay18 v3 v4 v43 v45 v79 v83 = x at hv
  pointwise [k0_pay17]
  simp only [hB]
  exact sum_bit a _ hv fun k => B k d

set_option maxHeartbeats 1600000 in
/-- Level 3's bits. -/
theorem pay1_at (v3 : FVec Ideal S4x1024 .f32) (v4 : IVec S256x1024 32) (v82 v120 : FVec Ideal S256x64 .bf16) (v122 : Vec Ideal S1x1024x64 .bf16)
    (hr : ∀ d, v82 (ix2 i d) - v120 (ix2 i d) = r d) (hB : ∀ k d, v122 (ix3 0 k d) = B k d)
    (hc : ∀ k, v3 (ix2 3 k) = ∑ d, B k d * B k d) (h4 : ∀ k : Fin 1024, v4 (ix2 i k) = BitVec.ofNat 32 (k : ℕ))
    (k : Fin 1024) : k0_pay1 v3 v4 v82 v120 v122 (ix2 i k) = bit (code (dist r B)) k := by
  pointwise [k0_pay1]
  simp only [hr, hB, hc, h4]
  exact bit_of (dist r B) k

end Level

section Pieces

variable (i : Fin 256) (a k : Fin 1024)

set_option maxHeartbeats 1600000 in
/-- Level 0's one-hot piece, from its bits. -/
theorem pay8_at (v0 : Vec Ideal S256x64 .f32) (v2 : Vec Ideal S4x1024 .f32) (v5 : Vec Ideal S1x1024x64 .bf16)
    (h : k0_pay7 v0 v2 v5 (ix2 i k) = bit a k) : k0_pay8 v0 v2 v5 (ix2 i k) = if a = k then (1 : EReal) else 0 := by
  unfold k0_pay8
  generalize k0_pay7 v0 v2 v5 = v at h
  pointwise
  rw [h, wide_bit]

set_option maxHeartbeats 1600000 in
/-- Level 0's masked piece, from its bits. -/
theorem pay9_at (v0 : Vec Ideal S256x64 .f32) (v2 : Vec Ideal S4x1024 .f32) (v5 : Vec Ideal S1x1024x64 .bf16)
    (h : k0_pay7 v0 v2 v5 (ix2 i k) = bit a k) : k0_pay9 v0 v2 v5 (ix2 i k) = if a = k then (1 : EReal) else Ideal.ofBits FTy.f32 4286578688#32 := by
  unfold k0_pay9
  generalize k0_pay7 v0 v2 v5 = v at h
  pointwise
  rw [h, select_bit]

set_option maxHeartbeats 1600000 in
/-- Level 1's one-hot piece, from its bits. -/
theorem pay13_at (v1 : FVec Ideal S256x64 .bf16) (v3 : FVec Ideal S4x1024 .f32) (v4 : IVec S256x1024 32) (v6 : FVec Ideal S1024x64 .bf16) (v30 : IVec S256x1024 1) (v44 : Vec Ideal S1x1024x64 .bf16)
    (h : k0_pay12 v1 v3 v4 v6 v30 v44 (ix2 i k) = bit a k) : k0_pay13 v1 v3 v4 v6 v30 v44 (ix2 i k) = if a = k then (1 : EReal) else 0 := by
  unfold k0_pay13
  generalize k0_pay12 v1 v3 v4 v6 v30 v44 = v at h
  pointwise
  rw [h, wide_bit]

set_option maxHeartbeats 1600000 in
/-- Level 1's masked piece, from its bits. -/
theorem pay14_at (v1 : FVec Ideal S256x64 .bf16) (v3 : FVec Ideal S4x1024 .f32) (v4 : IVec S256x1024 32) (v6 : FVec Ideal S1024x64 .bf16) (v30 : IVec S256x1024 1) (v44 : Vec Ideal S1x1024x64 .bf16)
    (h : k0_pay12 v1 v3 v4 v6 v30 v44 (ix2 i k) = bit a k) : k0_pay14 v1 v3 v4 v6 v30 v44 (ix2 i k) = if a = k then (1 : EReal) else Ideal.ofBits FTy.f32 4286578688#32 := by
  unfold k0_pay14
  generalize k0_pay12 v1 v3 v4 v6 v30 v44 = v at h
  pointwise
  rw [h, select_bit]

set_option maxHeartbeats 1600000 in
/-- Level 2's one-hot piece, from its bits. -/
theorem pay19_at (v3 : FVec Ideal S4x1024 .f32) (v4 : IVec S256x1024 32) (v43 : FVec Ideal S256x64 .bf16) (v45 : FVec Ideal S1024x64 .bf16) (v79 : FVec Ideal S256x1024 .bf16) (v83 : Vec Ideal S1x1024x64 .bf16)
    (h : k0_pay18 v3 v4 v43 v45 v79 v83 (ix2 i k) = bit a k) : k0_pay19 v3 v4 v43 v45 v79 v83 (ix2 i k) = if a = k then (1 : EReal) else 0 := by
  unfold k0_pay19
  generalize k0_pay18 v3 v4 v43 v45 v79 v83 = v at h
  pointwise
  rw [h, wide_bit]

set_option maxHeartbeats 1600000 in
/-- Level 2's masked piece, from its bits. -/
theorem pay20_at (v3 : FVec Ideal S4x1024 .f32) (v4 : IVec S256x1024 32) (v43 : FVec Ideal S256x64 .bf16) (v45 : FVec Ideal S1024x64 .bf16) (v79 : FVec Ideal S256x1024 .bf16) (v83 : Vec Ideal S1x1024x64 .bf16)
    (h : k0_pay18 v3 v4 v43 v45 v79 v83 (ix2 i k) = bit a k) : k0_pay20 v3 v4 v43 v45 v79 v83 (ix2 i k) = if a = k then (1 : EReal) else Ideal.ofBits FTy.f32 4286578688#32 := by
  unfold k0_pay20
  generalize k0_pay18 v3 v4 v43 v45 v79 v83 = v at h
  pointwise
  rw [h, select_bit]

set_option maxHeartbeats 1600000 in
/-- Level 3's one-hot piece, from its bits. -/
theorem pay2_at (v3 : FVec Ideal S4x1024 .f32) (v4 : IVec S256x1024 32) (v82 : FVec Ideal S256x64 .bf16) (v120 : FVec Ideal S256x64 .bf16) (v122 : Vec Ideal S1x1024x64 .bf16)
    (h : k0_pay1 v3 v4 v82 v120 v122 (ix2 i k) = bit a k) : k0_pay2 v3 v4 v82 v120 v122 (ix2 i k) = if a = k then (1 : EReal) else 0 := by
  unfold k0_pay2
  generalize k0_pay1 v3 v4 v82 v120 v122 = v at h
  pointwise
  rw [h, wide_bit]

set_option maxHeartbeats 1600000 in
/-- Level 3's masked piece, from its bits. -/
theorem pay3_at (v3 : FVec Ideal S4x1024 .f32) (v4 : IVec S256x1024 32) (v82 : FVec Ideal S256x64 .bf16) (v120 : FVec Ideal S256x64 .bf16) (v122 : Vec Ideal S1x1024x64 .bf16)
    (h : k0_pay1 v3 v4 v82 v120 v122 (ix2 i k) = bit a k) : k0_pay3 v3 v4 v82 v120 v122 (ix2 i k) = if a = k then (1 : EReal) else Ideal.ofBits FTy.f32 4286578688#32 := by
  unfold k0_pay3
  generalize k0_pay1 v3 v4 v82 v120 v122 = v at h
  pointwise
  rw [h, select_bit]

end Pieces

section Levels

variable (x0 : Vec Ideal S256x64 .f32) (x1 : Vec Ideal S4x1024x64 .bf16) (x2 : Vec Ideal S4x1024 .f32) (i : Fin 256)

/-- Row `i` of the input block. -/
abbrev rowOf : Fin 64 → EReal := fun d => x0 (ix2 i d)
/-- The four codebooks, by level. -/
abbrev booksOf : Fin 4 → Fin 1024 → Fin 64 → EReal := fun l k d => x1 (ix3 l k d)

/-- The rectangles the kernel reads: the whole block, and one codebook each. -/
theorem ld_x (d : Fin 64) : View.ld x0 r0_0 (ix2 i d) = rowOf x0 i d := by
  pointwise
@[inherit_doc ld_x]
theorem ld_c (l : Fin 4) (k : Fin 1024) : View.ld x2 r0_1 (ix2 l k) = x2 (ix2 l k) := by
  pointwise
@[inherit_doc ld_x]
theorem ld_b0 (k : Fin 1024) (d : Fin 64) : View.ld x1 r0_2 (ix3 0 k d) = booksOf x1 0 k d := by
  pointwise
@[inherit_doc ld_x]
theorem ld_b1 (k : Fin 1024) (d : Fin 64) : View.ld x1 r0_4 (ix3 0 k d) = booksOf x1 1 k d := by
  pointwise
@[inherit_doc ld_x]
theorem ld_b2 (k : Fin 1024) (d : Fin 64) : View.ld x1 r0_6 (ix3 0 k d) = booksOf x1 2 k d := by
  pointwise
@[inherit_doc ld_x]
theorem ld_b3 (k : Fin 1024) (d : Fin 64) : View.ld x1 r0_8 (ix3 0 k d) = booksOf x1 3 k d := by
  pointwise

/-- The column numbers. -/
theorem cols_at (k : Fin 1024) : k0_pay22 (F := Ideal) x0 x1 x2 (ix2 i k) = BitVec.ofNat 32 (k : ℕ) := by
  pointwise [k0_pay22]

/-- The codebook rows' sums of squares. -/
theorem sq_at (l : Fin 4) (k : Fin 1024) : k0_pay24 x0 x1 x2 (ix2 l k) = x2 (ix2 l k) := by
  pointwise [k0_pay24, k0_pay5]

/-- The rounded rows. -/
theorem row_at (d : Fin 64) : k0_pay23 x0 x1 x2 (ix2 i d) = rowOf x0 i d := by
  pointwise [k0_pay23, k0_pay4]

/-- The first two codebooks as matrices. -/
theorem book0_at (k : Fin 1024) (d : Fin 64) : k0_pay25 x0 x1 x2 (ix2 k d) = booksOf x1 0 k d := by
  pointwise [k0_pay25, k0_pay6]
@[inherit_doc book0_at]
theorem book1_at (k : Fin 1024) (d : Fin 64) : k0_pay28 x0 x1 x2 (ix2 k d) = booksOf x1 1 k d := by
  pointwise [k0_pay28, k0_pay11]

variable (hc : ∀ l k, x2 (ix2 l k) = ∑ d, booksOf x1 l k d * booksOf x1 l k d)
include hc

/-- The bits of level 0. -/
theorem bits0 (k : Fin 1024) : k0_pay26 x0 x1 x2 (ix2 i k) = bit (codeAt (rowOf x0 i) (booksOf x1) 0) k :=
  pay7_at _ _ i _ _ _ (ld_x x0 i) (ld_b0 x1) (fun k => (ld_c x2 0 k).trans (hc 0 k)) k

/-- The residual after level 0. -/
theorem res1_at (d : Fin 64) : k0_pay27 x0 x1 x2 (ix2 i d) = res (rowOf x0 i) (booksOf x1) 1 d := by
  unfold k0_pay27
  rw [pay10_at i _ _ _ _ (bits0 x0 x1 x2 i hc) d, row_at, book0_at]
  rfl

/-- The bits of level 1. -/
theorem bits1 (k : Fin 1024) :
    k0_pay12 (k0_pay23 x0 x1 x2) (k0_pay24 x0 x1 x2) (k0_pay22 x0 x1 x2) (k0_pay25 x0 x1 x2) (k0_pay26 x0 x1 x2) (View.ld x1 r0_4) (ix2 i k)
      = bit (codeAt (rowOf x0 i) (booksOf x1) 1) k :=
  pay12_at _ _ i _ _ _ _ _ _ (res1_at x0 x1 x2 i hc) (ld_b1 x1) (fun k => (sq_at x0 x1 x2 1 k).trans (hc 1 k)) (cols_at x0 x1 x2 i) k

/-- Level 1's one-hot rows. -/
theorem hot1_at (k : Fin 1024) : k0_pay29 x0 x1 x2 (ix2 i k) = if codeAt (rowOf x0 i) (booksOf x1) 1 = k then (1 : EReal) else 0 := by
  have h := bits1 x0 x1 x2 i hc k
  unfold k0_pay29 k0_pay15
  generalize k0_pay12 (k0_pay23 x0 x1 x2) (k0_pay24 x0 x1 x2) (k0_pay22 x0 x1 x2) (k0_pay25 x0 x1 x2) (k0_pay26 x0 x1 x2) (View.ld x1 r0_4) = v at h
  pointwise
  rw [h, wide_bit]

/-- The residual after level 1. -/
theorem res2_at (d : Fin 64) : k0_pay30 x0 x1 x2 (ix2 i d) = res (rowOf x0 i) (booksOf x1) 2 d := by
  unfold k0_pay30
  rw [pay16_at i _ _ _ _ (hot1_at x0 x1 x2 i hc) d, res1_at x0 x1 x2 i hc, book1_at]
  rfl

/-- The bits of level 2. -/
theorem bits2 (k : Fin 1024) :
    k0_pay18 (k0_pay24 x0 x1 x2) (k0_pay22 x0 x1 x2) (k0_pay27 x0 x1 x2) (k0_pay28 x0 x1 x2) (k0_pay29 x0 x1 x2) (View.ld x1 r0_6) (ix2 i k)
      = bit (codeAt (rowOf x0 i) (booksOf x1) 2) k :=
  pay18_at _ _ i _ _ _ _ _ _ (res2_at x0 x1 x2 i hc) (ld_b2 x1) (fun k => (sq_at x0 x1 x2 2 k).trans (hc 2 k)) (cols_at x0 x1 x2 i) k

/-- The codebook row level 2 subtracts. -/
theorem row2_at (d : Fin 64) : k0_pay31 x0 x1 x2 (ix2 i d) = booksOf x1 2 (codeAt (rowOf x0 i) (booksOf x1) 2) d :=
  pay21_at _ i _ _ _ _ _ _ _ (ld_b2 x1) (bits2 x0 x1 x2 i hc) d

/-- The bits of level 3. -/
theorem bits3 (k : Fin 1024) :
    k0_pay1 (k0_pay24 x0 x1 x2) (k0_pay22 x0 x1 x2) (k0_pay30 x0 x1 x2) (k0_pay31 x0 x1 x2) (View.ld x1 r0_8) (ix2 i k)
      = bit (codeAt (rowOf x0 i) (booksOf x1) 3) k := by
  refine pay1_at _ _ i _ _ _ _ _ (fun d => ?_) (ld_b3 x1) (fun k => (sq_at x0 x1 x2 3 k).trans (hc 3 k)) (cols_at x0 x1 x2 i) k
  rw [res2_at x0 x1 x2 i hc, row2_at x0 x1 x2 i hc]
  exact Eq.refl (res (rowOf x0 i) (booksOf x1) 3 d)

/-- What the block holds in the lanes of one level: one value at the row's code, another elsewhere. -/
abbrev pick (b : EReal) (l : Fin 4) (k : Fin 1024) : EReal := if codeAt (rowOf x0 i) (booksOf x1) l = k then 1 else b

set_option maxHeartbeats 1600000 in
/-- The one-hot block. -/
theorem probs_at (y : S256x4096.Idx) (l : Fin 4) (k : Fin 1024) (e0 : (y 0 : ℕ) = i) (e1 : (y 1 : ℕ) = 1024 * l + k) :
    out0_4 x0 x1 x2 y = pick x0 x1 i 0 l k := by
  have kl := k.isLt
  unfold out0_4
  canon_tiles x h
  case piece0 =>
    obtain rfl : x = ix2 i k := (eq_ix2 x).trans (by rw [show x 0 = i from Fin.ext (by omega), show x 1 = k from Fin.ext (by omega)])
    obtain rfl : l = 3 := Fin.ext (by show (l : ℕ) = 3; omega)
    exact pay2_at i _ k _ _ _ _ _ (bits3 x0 x1 x2 i hc k)
  case piece1 =>
    obtain rfl : x = ix2 i k := (eq_ix2 x).trans (by rw [show x 0 = i from Fin.ext (by omega), show x 1 = k from Fin.ext (by omega)])
    obtain rfl : l = 2 := Fin.ext (by show (l : ℕ) = 2; omega)
    exact pay19_at i _ k _ _ _ _ _ _ (bits2 x0 x1 x2 i hc k)
  case piece2 =>
    obtain rfl : x = ix2 i k := (eq_ix2 x).trans (by rw [show x 0 = i from Fin.ext (by omega), show x 1 = k from Fin.ext (by omega)])
    obtain rfl : l = 1 := Fin.ext (by show (l : ℕ) = 1; omega)
    exact pay13_at i _ k _ _ _ _ _ _ (bits1 x0 x1 x2 i hc k)
  case piece3 =>
    obtain rfl : x = ix2 i k := (eq_ix2 x).trans (by rw [show x 0 = i from Fin.ext (by omega), show x 1 = k from Fin.ext (by omega)])
    obtain rfl : l = 0 := Fin.ext (by show (l : ℕ) = 0; omega)
    exact pay8_at i _ k _ _ _ (bits0 x0 x1 x2 i hc k)

set_option maxHeartbeats 1600000 in
/-- The masked block. -/
theorem logits_at (y : S256x4096.Idx) (l : Fin 4) (k : Fin 1024) (e0 : (y 0 : ℕ) = i) (e1 : (y 1 : ℕ) = 1024 * l + k) :
    out0_3 x0 x1 x2 y = pick x0 x1 i (Ideal.ofBits FTy.f32 4286578688#32) l k := by
  have kl := k.isLt
  unfold out0_3
  canon_tiles x h
  case piece0 =>
    obtain rfl : x = ix2 i k := (eq_ix2 x).trans (by rw [show x 0 = i from Fin.ext (by omega), show x 1 = k from Fin.ext (by omega)])
    obtain rfl : l = 3 := Fin.ext (by show (l : ℕ) = 3; omega)
    exact pay3_at i _ k _ _ _ _ _ (bits3 x0 x1 x2 i hc k)
  case piece1 =>
    obtain rfl : x = ix2 i k := (eq_ix2 x).trans (by rw [show x 0 = i from Fin.ext (by omega), show x 1 = k from Fin.ext (by omega)])
    obtain rfl : l = 2 := Fin.ext (by show (l : ℕ) = 2; omega)
    exact pay20_at i _ k _ _ _ _ _ _ (bits2 x0 x1 x2 i hc k)
  case piece2 =>
    obtain rfl : x = ix2 i k := (eq_ix2 x).trans (by rw [show x 0 = i from Fin.ext (by omega), show x 1 = k from Fin.ext (by omega)])
    obtain rfl : l = 1 := Fin.ext (by show (l : ℕ) = 1; omega)
    exact pay14_at i _ k _ _ _ _ _ _ (bits1 x0 x1 x2 i hc k)
  case piece3 =>
    obtain rfl : x = ix2 i k := (eq_ix2 x).trans (by rw [show x 0 = i from Fin.ext (by omega), show x 1 = k from Fin.ext (by omega)])
    obtain rfl : l = 0 := Fin.ext (by show (l : ℕ) = 0; omega)
    exact pay9_at i _ k _ _ _ (bits0 x0 x1 x2 i hc k)

end Levels

end Cert.Proof.Block

end
-- ==== Proof.Array.lean ====
/- What the kernel's two result arrays hold: row by row, over the mathematics of one row. -/
module

public import proofs.«01_k».proof.Proof.Block

@[expose] public section

set_option maxRecDepth 16384

noncomputable section

namespace Cert.Proof.Array

open Idealize.ShloMosaic Idealize.ShloMosaic.TcCoe Idealize.SL.Sem Cert.KernelIdeal Cert.KernelIdeal.Gen Cert.Proof.Row
open Idealize.ShloMosaic.Pipeline (Dat)

/-- Which blocks each grid point works on. -/
theorem idx : ∀ t : Fin cfg0.N, win0_0.index t = ![t.val, 0] ∧ win0_1.index t = ![0, 0, 0] ∧ win0_2.index t = ![0, 0]
    ∧ win0_3.index t = ![t.val, 0] ∧ win0_4.index t = ![t.val, 0] :=
  (by decide +kernel : ∀ t : Fin grid0.N, _)

theorem lt16 (t : Fin cfg0.N) : (t : ℕ) < 16 := t.isLt

variable (m : (ℓ : Loc nD τ sig) → Buf (Elt Ideal) ℓ) (c : Dev nD) (t : Fin cfg0.N)

/-- The input rows. -/
abbrev argX : FVec Ideal S4096x64 .f32 := m ((c : Thread nD τ).loc main_arg0)
/-- The stacked codebooks. -/
abbrev argC : FVec Ideal S4x1024x64 .f32 := m ((c : Thread nD τ).loc main_arg1)
/-- Row `i` of the input. -/
abbrev rowX (i : Fin 4096) : Fin 64 → EReal := fun d => argX m c (ix2 i d)
/-- The four codebooks, by level. -/
abbrev books : Fin 4 → Fin 1024 → Fin 64 → EReal := fun l k d => argC m c (ix3 l k d)

set_option maxHeartbeats 1600000 in
/-- The input rows a point works on. -/
theorem blk_x (i : Fin 256) (n : Fin 4096) (h : (n : ℕ) = t * 256 + i) (d : Fin 64) :
    (iblk m c 0 t : Vec Ideal S256x64 .f32) (ix2 i d) = rowX m c n d := by
  blk_ext [iblk, V_main_arg0, idx t]

set_option maxHeartbeats 1600000 in
/-- The rounded codebooks as the region finds them. -/
theorem host_c : (V m c main_v0 : FVec Ideal S4x1024x64 .bf16) = truncf .bf16 (argC m c) bitsLt_bf16_f32 := by
  unfold V V0 hostOps0
  simp only [List.flatten_cons, List.flatten_nil, List.append_nil]
  after_results

set_option maxHeartbeats 1600000 in
/-- The codebooks a point works on. -/
theorem blk_c (l : Fin 4) (k : Fin 1024) (d : Fin 64) :
    (iblk m c 1 t : Vec Ideal S4x1024x64 .bf16) (ix3 l k d) = books m c l k d := by
  have h : (iblk m c 1 t : Vec Ideal S4x1024x64 .bf16) (ix3 l k d) = (V m c main_v0 : FVec Ideal S4x1024x64 .bf16) (ix3 l k d) := by
    blk_ext [iblk, idx t]
  rw [h, host_c]
  rfl

set_option maxHeartbeats 1600000 in
/-- The sums of squares as the region finds them. -/
theorem host_s : (V m c main_v3 : FVec Ideal S4x1024 .f32) =
    Host.reduceAdd (mulf (extf .f32 (truncf .bf16 (argC m c) bitsLt_bf16_f32) bitsLt_bf16_f32)
      (extf .f32 (truncf .bf16 (argC m c) bitsLt_bf16_f32) bitsLt_bf16_f32)) (constant S_ .f32 0x00000000#32)
      reducesTo_S4x1024x64_S4x1024_d2 h_S_ := by
  unfold V V0 hostOps0
  simp only [List.flatten_cons, List.flatten_nil, List.append_nil]
  after_results

set_option maxHeartbeats 1600000 in
/-- The codebook rows' sums of squares a point works with. -/
theorem blk_s (l : Fin 4) (k : Fin 1024) :
    (iblk m c 2 t : Vec Ideal S4x1024 .f32) (ix2 l k) = ∑ d, books m c l k d * books m c l k d := by
  have h : (iblk m c 2 t : Vec Ideal S4x1024 .f32) (ix2 l k) = (V m c main_v3 : FVec Ideal S4x1024 .f32) (ix2 l k) := by
    blk_ext [iblk, idx t]
  rw [h, host_s]
  pointwise

/-- What the arrays hold: in the lanes of a level, one at the row's code and another value elsewhere. -/
def arr (b : EReal) : FVec Ideal S4096x4096 .f32 := fun j =>
  if codeAt (rowX m c (j 0)) (books m c) ⟨(j 1 : ℕ) / 1024, Nat.div_lt_of_lt_mul (j 1).isLt⟩ = ⟨(j 1 : ℕ) % 1024, Nat.mod_lt _ (by decide)⟩ then 1 else b

/-- `arr` at a row, a level and a code. -/
theorem arr_at (b : EReal) (j : S4096x4096.Idx) (n : Fin 4096) (l : Fin 4) (k : Fin 1024) (h0 : (j 0 : ℕ) = n) (h1 : (j 1 : ℕ) = 1024 * l + k) :
    arr m c b j = if codeAt (rowX m c n) (books m c) l = k then 1 else b := by
  have kl := k.isLt
  unfold arr
  rw [show j 0 = n from Fin.ext h0,
    show (⟨(j 1 : ℕ) / 1024, Nat.div_lt_of_lt_mul (j 1).isLt⟩ : Fin 4) = l from Fin.ext (by show (j 1 : ℕ) / 1024 = l; omega),
    show (⟨(j 1 : ℕ) % 1024, Nat.mod_lt _ (by decide)⟩ : Fin 1024) = k from Fin.ext (by show (j 1 : ℕ) % 1024 = k; omega)]

/-- A point's blocks against the arrays: the row of the block is the row of the array. -/
theorem pick_eq (i : Fin 256) (n : Fin 4096) (h : (n : ℕ) = t * 256 + i) (b : EReal) (l : Fin 4) (k : Fin 1024) :
    Block.pick (iblk m c 0 t) (iblk m c 1 t) i b l k = if codeAt (rowX m c n) (books m c) l = k then 1 else b := by
  have hx : Block.rowOf (iblk m c 0 t) i = rowX m c n := funext fun d => blk_x m c t i n h d
  have hb : Block.booksOf (iblk m c 1 t) = books m c := funext fun l => funext fun k => funext fun d => blk_c m c t l k d
  unfold Block.pick
  rw [hx, hb]

/-- The sums of squares are those of the point's codebooks. -/
theorem sq (l : Fin 4) (k : Fin 1024) : (iblk m c 2 t : Vec Ideal S4x1024 .f32) (ix2 l k) =
    (∑ d, Block.booksOf (iblk m c 1 t) l k d * Block.booksOf (iblk m c 1 t) l k d : EReal) := by
  have hb : Block.booksOf (iblk m c 1 t) = books m c := funext fun l => funext fun k => funext fun d => blk_c m c t l k d
  rw [hb]
  exact blk_s m c t l k

set_option maxHeartbeats 1600000 in
/-- A point of the masked array. -/
theorem point3 (y : S256x4096.Idx) : out0_3 (iblk m c 0 t) (iblk m c 1 t) (iblk m c 2 t) y
    = arr m c (Ideal.ofBits FTy.f32 4286578688#32) ((win0_3.blk t).view.emb y) := by
  have ht := lt16 t
  have y0 : (y 0 : ℕ) < 256 := (y 0).isLt
  have y1 : (y 1 : ℕ) < 4096 := (y 1).isLt
  have hy : (y 1 : ℕ) = 1024 * ((y 1 : ℕ) / 1024) + (y 1 : ℕ) % 1024 := by omega
  have e := Block.logits_at (iblk m c 0 t) (iblk m c 1 t) (iblk m c 2 t) ⟨(y 0 : ℕ), y0⟩ (sq m c t) y ⟨(y 1 : ℕ) / 1024, by omega⟩
    ⟨(y 1 : ℕ) % 1024, by omega⟩ rfl hy
  rw [e, pick_eq m c t ⟨(y 0 : ℕ), y0⟩ ⟨t * 256 + (y 0 : ℕ), by omega⟩ rfl]
  refine (arr_at m c _ _ _ _ _ ?_ ?_).symm
  · blk_simp [idx t]
  · blk_simp [idx t]
    exact hy

set_option maxHeartbeats 1600000 in
/-- The masked array. -/
theorem final3 : (dats m 0 c).arrAt 3 (cfgs 0).N = arr m c (Ideal.ofBits FTy.f32 4286578688#32) := by
  refine (dats m 0 c).arrAt_eq_of_covers 3 _ (by decide +kernel) fun t hf y => ?_
  blk_simp
  rw [after0_3]
  exact point3 m c t y

set_option maxHeartbeats 1600000 in
/-- A point of the one-hot array. -/
theorem point4 (y : S256x4096.Idx) : out0_4 (iblk m c 0 t) (iblk m c 1 t) (iblk m c 2 t) y
    = arr m c 0 ((win0_4.blk t).view.emb y) := by
  have ht := lt16 t
  have y0 : (y 0 : ℕ) < 256 := (y 0).isLt
  have y1 : (y 1 : ℕ) < 4096 := (y 1).isLt
  have hy : (y 1 : ℕ) = 1024 * ((y 1 : ℕ) / 1024) + (y 1 : ℕ) % 1024 := by omega
  have e := Block.probs_at (iblk m c 0 t) (iblk m c 1 t) (iblk m c 2 t) ⟨(y 0 : ℕ), y0⟩ (sq m c t) y ⟨(y 1 : ℕ) / 1024, by omega⟩
    ⟨(y 1 : ℕ) % 1024, by omega⟩ rfl hy
  rw [e, pick_eq m c t ⟨(y 0 : ℕ), y0⟩ ⟨t * 256 + (y 0 : ℕ), by omega⟩ rfl]
  refine (arr_at m c _ _ _ _ _ ?_ ?_).symm
  · blk_simp [idx t]
  · blk_simp [idx t]
    exact hy

set_option maxHeartbeats 1600000 in
/-- The one-hot array. -/
theorem final4 : (dats m 0 c).arrAt 4 (cfgs 0).N = arr m c 0 := by
  refine (dats m 0 c).arrAt_eq_of_covers 4 _ (by decide +kernel) fun t hf y => ?_
  blk_simp
  rw [after0_4]
  exact point4 m c t y

set_option maxHeartbeats 1600000 in
/-- An array regrouped by level. -/
theorem split_at (b : EReal) (i : Fin 4096) (l : Fin 4) (k : Fin 1024) :
    shapeCast S4096x4x1024 (arr m c b) shapeCasts_S4096x4096_S4096x4x1024 (ix3 i l k)
      = if codeAt (rowX m c i) (books m c) l = k then 1 else b := by
  pointwise
  exact arr_at m c b _ i l k rfl (by show (l : ℕ) * 1024 + k = 1024 * l + k; omega)

/-- The pipeline's arrays are distinct. -/
theorem arr_inj : Function.Injective (Pipeline.arrRef spec0) := by decide

set_option maxHeartbeats 1600000 in
/-- The first result. -/
theorem tail5 : Pipeline.afterTail₀ cfgs (dats m) 0 (V0 m) [hostOps1] c main_v5
    = shapeCast S4096x4x1024 (arr m c (Ideal.ofBits FTy.f32 4286578688#32)) shapeCasts_S4096x4096_S4096x4x1024 := by
  have h : Pipeline.withArrays (cfgs 0).spec c (V0 m c) (fun w => (dats m 0 c).arrAt w (cfgs 0).N) (Proc.devRef .tc main_v4_0)
      = arr m c (Ideal.ofBits FTy.f32 4286578688#32) :=
    (Pipeline.withArrays_arr spec0 arr_inj c (V0 m c) _ 3).trans (final3 m c)
  unfold Pipeline.afterTail₀ hostOps1
  simp only [List.flatten_cons, List.flatten_nil, List.append_nil]
  after_results
  rw [h]
  rfl

set_option maxHeartbeats 1600000 in
/-- The second result. -/
theorem tail6 : Pipeline.afterTail₀ cfgs (dats m) 0 (V0 m) [hostOps1] c main_v6
    = shapeCast S4096x4x1024 (arr m c 0) shapeCasts_S4096x4096_S4096x4x1024 := by
  have h : Pipeline.withArrays (cfgs 0).spec c (V0 m c) (fun w => (dats m 0 c).arrAt w (cfgs 0).N) (Proc.devRef .tc main_v4_1)
      = arr m c 0 :=
    (Pipeline.withArrays_arr spec0 arr_inj c (V0 m c) _ 4).trans (final4 m c)
  unfold Pipeline.afterTail₀ hostOps1
  simp only [List.flatten_cons, List.flatten_nil, List.append_nil]
  after_results
  rw [h]
  rfl

end Cert.Proof.Array

end
-- ==== Proof.RefOps.lean ====
/- The reference program as a list of host operations, cut into a first line (the two inputs rounded), four levels of
   three lines each (distances, argmin, row taken and subtracted), and a last line (codes joined, one-hot, mask). -/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.ReadAt

@[expose] public section

set_option maxRecDepth 16384

noncomputable section

namespace Cert.Proof.Ref

open Idealize.ShloMosaic Idealize.ShloMosaic.StableHlo Idealize.SL.Sem Cert.ReferenceIdeal Cert.ReferenceIdeal.Facts₀

/-- A host operation of the reference. -/
abbrev Op := HloOp τ sig (Elt Ideal)

/-- The values of one level's distance line, each with its buffer. -/
structure DistBufs where
  sl : TRef sig ⟨S1x1024x64, .bf16⟩
  cb : TRef sig ⟨S1024x64, .bf16⟩
  r : TRef sig ⟨S4096x64, .f32⟩
  k : TRef sig ⟨S1024x64, .f32⟩
  rr : TRef sig ⟨S4096x64, .f32⟩
  z : TRef sig ⟨S_, .f32⟩
  r2 : TRef sig ⟨S4096, .f32⟩
  r2c : TRef sig ⟨S4096x1, .f32⟩
  kt : TRef sig ⟨S64x1024, .f32⟩
  mm : TRef sig ⟨S4096x1024, .f32⟩
  two : TRef sig ⟨S_, .f32⟩
  twos : TRef sig ⟨S4096x1024, .f32⟩
  mm2 : TRef sig ⟨S4096x1024, .f32⟩
  r2w : TRef sig ⟨S4096x1024, .f32⟩
  dif : TRef sig ⟨S4096x1024, .f32⟩
  kk : TRef sig ⟨S1024x64, .f32⟩
  z' : TRef sig ⟨S_, .f32⟩
  k2 : TRef sig ⟨S1024, .f32⟩
  k2r : TRef sig ⟨S1x1024, .f32⟩
  k2w : TRef sig ⟨S4096x1024, .f32⟩
  d2 : TRef sig ⟨S4096x1024, .f32⟩

/-- The operations of one level up to the squared distances: `cut` takes the level's codebook, `x` holds the residual. -/
def distOps (cut : (⟨S4x1024x64, .bf16⟩ : BufTy).Contents (Elt Ideal) → (⟨S1x1024x64, .bf16⟩ : BufTy).Contents (Elt Ideal))
    (x : TRef sig ⟨S4096x64, .bf16⟩) (cbs : TRef sig ⟨S4x1024x64, .bf16⟩) (φ : DistBufs) : List Op :=
  [TRef.unary cbs φ.sl cut,
   TRef.reshape φ.sl φ.cb rfl shapeCasts_S1x1024x64_S1024x64,
   TRef.unary x φ.r (extf (F := Ideal) .f32 · bitsLt_bf16_f32),
   TRef.unary φ.cb φ.k (extf (F := Ideal) .f32 · bitsLt_bf16_f32),
   TRef.binary φ.r φ.r φ.rr (mulf (F := Ideal) (s := S4096x64) (φ := .f32)),
   TRef.nullary φ.z (constant (F := Ideal) S_ .f32 0x00000000#32),
   TRef.binary φ.rr φ.z φ.r2 (fun x v => Host.reduceAdd (F := Ideal) (φ := .f32) x v reducesTo_S4096x64_S4096_d1 h_S_),
   TRef.unary φ.r2 φ.r2c (broadcastInDim S4096x1 ![0] bcast_S4096_S4096x1_0),
   TRef.unary φ.k φ.kt (transpose S64x1024 [1, 0] · transposes_S1024x64_S64x1024_1_0),
   TRef.binary φ.r φ.kt φ.mm (fun l r => Host.dotGeneral (F := Ideal) (φ₁ := .f32) (φ₂ := .f32) dot_S4096x64_S64x1024_S4096x1024_1_0_0_1_n_n none l r),
   TRef.nullary φ.two (constant (F := Ideal) S_ .f32 0x40000000#32),
   TRef.unary φ.two φ.twos (broadcastInDim S4096x1024 ![] bcast_S_S4096x1024),
   TRef.binary φ.twos φ.mm φ.mm2 (mulf (F := Ideal) (s := S4096x1024) (φ := .f32)),
   TRef.unary φ.r2c φ.r2w (broadcastInDim S4096x1024 ![0, 1] bcast_S4096x1_S4096x1024_0_1),
   TRef.binary φ.r2w φ.mm2 φ.dif (subf (F := Ideal) (s := S4096x1024) (φ := .f32)),
   TRef.binary φ.k φ.k φ.kk (mulf (F := Ideal) (s := S1024x64) (φ := .f32)),
   TRef.nullary φ.z' (constant (F := Ideal) S_ .f32 0x00000000#32),
   TRef.binary φ.kk φ.z' φ.k2 (fun x v => Host.reduceAdd (F := Ideal) (φ := .f32) x v reducesTo_S1024x64_S1024_d1 h_S_),
   TRef.unary φ.k2 φ.k2r (broadcastInDim S1x1024 ![1] bcast_S1024_S1x1024_1),
   TRef.unary φ.k2r φ.k2w (broadcastInDim S4096x1024 ![0, 1] bcast_S1x1024_S4096x1024_0_1),
   TRef.binary φ.dif φ.k2w φ.d2 (addf (F := Ideal) (s := S4096x1024) (φ := .f32))]

/-- The operations of one argmin call. -/
def argOps (d : TRef sig ⟨S4096x1024, .f32⟩) (φ : fn_argmin.Bufs) : List Op :=
  [TRef.nullary φ.v0 (iotaInDim S4096x1024 32 1),
   TRef.nullary φ.cst (constant (F := Ideal) S_ .f32 0x7F800000#32),
   TRef.nullary φ.c (constantI S_ 32 0#32),
   TRef.quaternary d φ.v0 φ.cst φ.c φ.v1_0
    (fun x y u v j => (Host.argReduce (F := Ideal) (φ := .f32) reducer_argmin_f32_i32 x y u v reducesTo_S4096x1024_S4096_d1 h_S_ j).1),
   TRef.quaternary d φ.v0 φ.cst φ.c φ.v1_1
    (fun x y u v j => (Host.argReduce (F := Ideal) (φ := .f32) reducer_argmin_f32_i32 x y u v reducesTo_S4096x1024_S4096_d1 h_S_ j).2)]

/-- The operations of one row-taking call, and the subtraction that follows it. -/
def takeOps (cb : TRef sig ⟨S1024x64, .bf16⟩) (code : TRef sig ⟨S4096, .i32⟩) (φ : fn_take.Bufs)
    (x y : TRef sig ⟨S4096x64, .bf16⟩) : List Op :=
  [TRef.nullary φ.c (constantI S_ 32 0#32),
   TRef.unary φ.c φ.v0 (broadcastInDim S4096 ![] bcast_S_S4096),
   TRef.binary code φ.v0 φ.v1 (cmpi .slt),
   TRef.nullary φ.c_0 (constantI S_ 32 1024#32),
   TRef.unary φ.c_0 φ.v2 (broadcastInDim S4096 ![] bcast_S_S4096),
   TRef.binary code φ.v2 φ.v3 addi,
   TRef.ternary φ.v1 φ.v3 code φ.call0.v0 select,
   TRef.unary φ.call0.v0 φ.v5 (broadcastInDim S4096x1 ![0] bcast_S4096_S4096x1_0),
   TRef.nullary φ.c_1 (constantI S1 32 1023#32),
   TRef.nullary φ.c_2 (constantI S_ 32 0#32),
   TRef.unary φ.c_2 φ.v6 (broadcastInDim S4096x1 ![] bcast_S_S4096x1),
   TRef.binary φ.v5 φ.v6 φ.v7 (cmpi .sge),
   TRef.unary φ.c_1 φ.v8 (broadcastInDim S1x1 ![1] bcast_S1_S1x1_1),
   TRef.unary φ.v8 φ.v9 (broadcastInDim S4096x1 ![0, 1] bcast_S1x1_S4096x1_0_1),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S4096x1_S4096_d1 h_S_),
   TRef.binary cb φ.v5 φ.v13 (fun x i => Host.gather gather_S1024x64_S4096x1_S4096x64_1_0_n_n_0_1_164 x i),
   TRef.unary φ.v12 φ.v14 (broadcastInDim S4096x64 ![0] bcast_S4096_S4096x64_0),
   TRef.nullary φ.cst (constant (F := Ideal) S_ .bf16 0x7FC0#16),
   TRef.unary φ.cst φ.v15 (broadcastInDim S4096x64 ![] bcast_S_S4096x64),
   TRef.ternary φ.v14 φ.v13 φ.v15 φ.v16 select,
   TRef.binary x φ.v16 y (subf (F := Ideal) (s := S4096x64) (φ := .bf16))]

/-- The operations of the one-hot call. -/
def hotOps (code : TRef sig ⟨S4096x4, .i32⟩) (φ : fn_one_hot.Bufs) : List Op :=
  [TRef.unary code φ.v0 (broadcastInDim S4096x4x1 ![0, 1] bcast_S4096x4_S4096x4x1_0_1),
   TRef.nullary φ.v1 (iotaInDim S1x1x1024 32 2),
   TRef.unary φ.v0 φ.v2 (broadcastInDim S4096x4x1024 ![0, 1, 2] bcast_S4096x4x1_S4096x4x1024_0_1_2),
   TRef.unary φ.v1 φ.v3 (broadcastInDim S4096x4x1024 ![0, 1, 2] bcast_S1x1x1024_S4096x4x1024_0_1_2),
   TRef.binary φ.v2 φ.v3 φ.v4 (cmpi .eq),
   TRef.unary φ.v4 φ.v5 (uitofp (F := Ideal) .f32)]

/-- The operations of the mask call. -/
def maskOps (p : TRef sig ⟨S4096x4x1024, .i1⟩) (x : TRef sig ⟨S4096x4x1024, .f32⟩) (v : TRef sig ⟨S_, .f32⟩)
    (φ : fn_where_0.Bufs) : List Op :=
  [TRef.unary v φ.v0 id,
   TRef.unary φ.v0 φ.v1 (broadcastInDim S4096x4x1024 ![] bcast_S_S4096x4x1024),
   TRef.ternary p x φ.v1 φ.v2 select]

/-- The first line: both inputs rounded. -/
def headOps : List Op :=
  [unary main_arg0 main_v0 ((truncf (F := Ideal) .bf16 · bitsLt_bf16_f32) : (⟨S4096x64, .f32⟩ : BufTy).Contents (Elt Ideal) → (⟨S4096x64, .bf16⟩ : BufTy).Contents (Elt Ideal)),
   unary main_arg1 main_v1 ((truncf (F := Ideal) .bf16 · bitsLt_bf16_f32) : (⟨S4x1024x64, .f32⟩ : BufTy).Contents (Elt Ideal) → (⟨S4x1024x64, .bf16⟩ : BufTy).Contents (Elt Ideal))]

/-- The last line: the four code columns joined, their one-hot rows, and the mask. -/
def tailOps : List Op :=
  [TRef.unary (.of main_v20) (.of main_v86) (broadcastInDim S4096x1 ![0] bcast_S4096_S4096x1_0 : (⟨S4096, .i32⟩ : BufTy).Contents (Elt Ideal) → (⟨S4096x1, .i32⟩ : BufTy).Contents (Elt Ideal)),
   TRef.unary (.of main_v41) (.of main_v87) (broadcastInDim S4096x1 ![0] bcast_S4096_S4096x1_0 : (⟨S4096, .i32⟩ : BufTy).Contents (Elt Ideal) → (⟨S4096x1, .i32⟩ : BufTy).Contents (Elt Ideal)),
   TRef.unary (.of main_v62) (.of main_v88) (broadcastInDim S4096x1 ![0] bcast_S4096_S4096x1_0 : (⟨S4096, .i32⟩ : BufTy).Contents (Elt Ideal) → (⟨S4096x1, .i32⟩ : BufTy).Contents (Elt Ideal)),
   TRef.unary (.of main_v83) (.of main_v89) (broadcastInDim S4096x1 ![0] bcast_S4096_S4096x1_0 : (⟨S4096, .i32⟩ : BufTy).Contents (Elt Ideal) → (⟨S4096x1, .i32⟩ : BufTy).Contents (Elt Ideal)),
   nary ![main_v86, main_v87, main_v88, main_v89] main_v90 (fun u => (concatenate S4096x4 1 [⟨S4096x1, (u 0 : (⟨S4096x1, .i32⟩ : BufTy).Contents (Elt Ideal))⟩, ⟨S4096x1, (u 1 : (⟨S4096x1, .i32⟩ : BufTy).Contents (Elt Ideal))⟩, ⟨S4096x1, (u 2 : (⟨S4096x1, .i32⟩ : BufTy).Contents (Elt Ideal))⟩, ⟨S4096x1, (u 3 : (⟨S4096x1, .i32⟩ : BufTy).Contents (Elt Ideal))⟩] concatenates_S4096x1_S4096x1_S4096x1_S4096x1_S4096x4_d1 : (⟨S4096x4, .i32⟩ : BufTy).Contents (Elt Ideal)))]
  ++ (hotOps (.of main_v90) main_call8
  ++ ([TRef.nullary (.of main_cst_11) (constant (F := Ideal) S_ .f32 0x00000000#32),
   TRef.unary (.of main_cst_11) (.of main_v92) (broadcastInDim S4096x4x1024 ![] bcast_S_S4096x4x1024 : (⟨S_, .f32⟩ : BufTy).Contents (Elt Ideal) → (⟨S4096x4x1024, .f32⟩ : BufTy).Contents (Elt Ideal)),
   TRef.binary (.of main_v91) (.of main_v92) (.of main_v93) (cmpf (F := Ideal) (s := S4096x4x1024) (φ := .f32) .ogt : (⟨S4096x4x1024, .f32⟩ : BufTy).Contents (Elt Ideal) → (⟨S4096x4x1024, .f32⟩ : BufTy).Contents (Elt Ideal) → (⟨S4096x4x1024, .i1⟩ : BufTy).Contents (Elt Ideal)),
   TRef.nullary (.of main_cst_12) (constant (F := Ideal) S_ .f32 0xFF800000#32)]
  ++ maskOps (.of main_v93) (.of main_v91) (.of main_cst_12) main_call9))

/-- Level 0's distance values. -/
abbrev dist0 : DistBufs where
  sl := .of main_v2
  cb := .of main_v3
  r := .of main_v4
  k := .of main_v5
  rr := .of main_v6
  z := .of main_cst
  r2 := .of main_v7
  r2c := .of main_v8
  kt := .of main_v9
  mm := .of main_v10
  two := .of main_cst_0
  twos := .of main_v11
  mm2 := .of main_v12
  r2w := .of main_v13
  dif := .of main_v14
  kk := .of main_v15
  z' := .of main_cst_1
  k2 := .of main_v16
  k2r := .of main_v17
  k2w := .of main_v18
  d2 := .of main_v19

/-- Level 1's distance values. -/
abbrev dist1 : DistBufs where
  sl := .of main_v23
  cb := .of main_v24
  r := .of main_v25
  k := .of main_v26
  rr := .of main_v27
  z := .of main_cst_2
  r2 := .of main_v28
  r2c := .of main_v29
  kt := .of main_v30
  mm := .of main_v31
  two := .of main_cst_3
  twos := .of main_v32
  mm2 := .of main_v33
  r2w := .of main_v34
  dif := .of main_v35
  kk := .of main_v36
  z' := .of main_cst_4
  k2 := .of main_v37
  k2r := .of main_v38
  k2w := .of main_v39
  d2 := .of main_v40

/-- Level 2's distance values. -/
abbrev dist2 : DistBufs where
  sl := .of main_v44
  cb := .of main_v45
  r := .of main_v46
  k := .of main_v47
  rr := .of main_v48
  z := .of main_cst_5
  r2 := .of main_v49
  r2c := .of main_v50
  kt := .of main_v51
  mm := .of main_v52
  two := .of main_cst_6
  twos := .of main_v53
  mm2 := .of main_v54
  r2w := .of main_v55
  dif := .of main_v56
  kk := .of main_v57
  z' := .of main_cst_7
  k2 := .of main_v58
  k2r := .of main_v59
  k2w := .of main_v60
  d2 := .of main_v61

/-- Level 3's distance values. -/
abbrev dist3 : DistBufs where
  sl := .of main_v65
  cb := .of main_v66
  r := .of main_v67
  k := .of main_v68
  rr := .of main_v69
  z := .of main_cst_8
  r2 := .of main_v70
  r2c := .of main_v71
  kt := .of main_v72
  mm := .of main_v73
  two := .of main_cst_9
  twos := .of main_v74
  mm2 := .of main_v75
  r2w := .of main_v76
  dif := .of main_v77
  kk := .of main_v78
  z' := .of main_cst_10
  k2 := .of main_v79
  k2r := .of main_v80
  k2w := .of main_v81
  d2 := .of main_v82

/-- The level's codebook, cut from the four. -/
abbrev cut0 : (⟨S4x1024x64, .bf16⟩ : BufTy).Contents (Elt Ideal) → (⟨S1x1024x64, .bf16⟩ : BufTy).Contents (Elt Ideal) :=
  (extractStridedSlice S1x1024x64 ![0, 0, 0] · slices_S4x1024x64_S1x1024x64_0_0_0)
@[inherit_doc cut0]
abbrev cut1 : (⟨S4x1024x64, .bf16⟩ : BufTy).Contents (Elt Ideal) → (⟨S1x1024x64, .bf16⟩ : BufTy).Contents (Elt Ideal) :=
  (extractStridedSlice S1x1024x64 ![1, 0, 0] · slices_S4x1024x64_S1x1024x64_1_0_0)
@[inherit_doc cut0]
abbrev cut2 : (⟨S4x1024x64, .bf16⟩ : BufTy).Contents (Elt Ideal) → (⟨S1x1024x64, .bf16⟩ : BufTy).Contents (Elt Ideal) :=
  (extractStridedSlice S1x1024x64 ![2, 0, 0] · slices_S4x1024x64_S1x1024x64_2_0_0)
@[inherit_doc cut0]
abbrev cut3 : (⟨S4x1024x64, .bf16⟩ : BufTy).Contents (Elt Ideal) → (⟨S1x1024x64, .bf16⟩ : BufTy).Contents (Elt Ideal) :=
  (extractStridedSlice S1x1024x64 ![3, 0, 0] · slices_S4x1024x64_S1x1024x64_3_0_0)

/-- The lines of the four levels. -/
abbrev d0Ops : List Op := distOps cut0 (.of main_v0) (.of main_v1) dist0
@[inherit_doc d0Ops] abbrev d1Ops : List Op := distOps cut1 (.of main_v22) (.of main_v1) dist1
@[inherit_doc d0Ops] abbrev d2Ops : List Op := distOps cut2 (.of main_v43) (.of main_v1) dist2
@[inherit_doc d0Ops] abbrev d3Ops : List Op := distOps cut3 (.of main_v64) (.of main_v1) dist3
@[inherit_doc d0Ops] abbrev a0Ops : List Op := argOps (.of main_v19) main_call0
@[inherit_doc d0Ops] abbrev a1Ops : List Op := argOps (.of main_v40) main_call2
@[inherit_doc d0Ops] abbrev a2Ops : List Op := argOps (.of main_v61) main_call4
@[inherit_doc d0Ops] abbrev a3Ops : List Op := argOps (.of main_v82) main_call6
@[inherit_doc d0Ops] abbrev t0Ops : List Op := takeOps (.of main_v3) (.of main_v20) main_call1 (.of main_v0) (.of main_v22)
@[inherit_doc d0Ops] abbrev t1Ops : List Op := takeOps (.of main_v24) (.of main_v41) main_call3 (.of main_v22) (.of main_v43)
@[inherit_doc d0Ops] abbrev t2Ops : List Op := takeOps (.of main_v45) (.of main_v62) main_call5 (.of main_v43) (.of main_v64)
@[inherit_doc d0Ops] abbrev t3Ops : List Op := takeOps (.of main_v66) (.of main_v83) main_call7 (.of main_v64) (.of main_v85)

/-- A level: distances, argmin, row taken and subtracted. -/
abbrev l0Ops : List Op := d0Ops ++ (a0Ops ++ t0Ops)
@[inherit_doc l0Ops] abbrev l1Ops : List Op := d1Ops ++ (a1Ops ++ t1Ops)
@[inherit_doc l0Ops] abbrev l2Ops : List Op := d2Ops ++ (a2Ops ++ t2Ops)
@[inherit_doc l0Ops] abbrev l3Ops : List Op := d3Ops ++ (a3Ops ++ t3Ops)

/-- Every operation of the reference, in order. -/
def ops : List Op := headOps ++ (l0Ops ++ (l1Ops ++ (l2Ops ++ (l3Ops ++ tailOps))))

set_option maxHeartbeats 1600000 in
/-- The printed reference is the straight line of `ops`. -/
theorem isSeq (d : Dev nD) : IsSeq (main (F := Ideal) d) ops := by
  unfold IsSeq
  rfl

end Cert.Proof.Ref

end
-- ==== Proof.RefRun.lean ====
/- What each line of the reference leaves in the buffers that later lines read, as functions of the buffers before it. -/
module

public import proofs.«01_k».proof.Proof.RefOps

@[expose] public section

set_option maxRecDepth 16384

noncomputable section

namespace Cert.Proof.Ref

open Idealize.ShloMosaic Idealize.ShloMosaic.StableHlo Idealize.SL.Sem Cert.ReferenceIdeal Cert.ReferenceIdeal.Facts₀

/-- The squared distances of the rows of `x` to the rows of `cb`. -/
def distF (x : FVec Ideal S4096x64 .bf16) (cb : FVec Ideal S1024x64 .bf16) : FVec Ideal S4096x1024 .f32 :=
  addf (subf
      (broadcastInDim S4096x1024 ![0, 1] bcast_S4096x1_S4096x1024_0_1 (broadcastInDim S4096x1 ![0] bcast_S4096_S4096x1_0
        (Host.reduceAdd (mulf (extf .f32 x bitsLt_bf16_f32) (extf .f32 x bitsLt_bf16_f32)) (constant S_ .f32 0x00000000#32)
          reducesTo_S4096x64_S4096_d1 h_S_)))
      (mulf (broadcastInDim S4096x1024 ![] bcast_S_S4096x1024 (constant S_ .f32 0x40000000#32))
        (Host.dotGeneral dot_S4096x64_S64x1024_S4096x1024_1_0_0_1_n_n none (extf .f32 x bitsLt_bf16_f32)
          (transpose S64x1024 [1, 0] (extf .f32 cb bitsLt_bf16_f32) transposes_S1024x64_S64x1024_1_0))))
    (broadcastInDim S4096x1024 ![0, 1] bcast_S1x1024_S4096x1024_0_1 (broadcastInDim S1x1024 ![1] bcast_S1024_S1x1024_1
      (Host.reduceAdd (mulf (extf .f32 cb bitsLt_bf16_f32) (extf .f32 cb bitsLt_bf16_f32)) (constant S_ .f32 0x00000000#32)
        reducesTo_S1024x64_S1024_d1 h_S_)))

/-- A level's codebook as a matrix. -/
def cbF (cut : FVec Ideal S4x1024x64 .bf16 → FVec Ideal S1x1024x64 .bf16) (cbs : FVec Ideal S4x1024x64 .bf16) :
    FVec Ideal S1024x64 .bf16 :=
  shapeCast S1024x64 (cut cbs) shapeCasts_S1x1024x64_S1024x64

/-- The column of each row's least entry, the first where several are least. -/
def argF (d : FVec Ideal S4096x1024 .f32) : IVec S4096 32 := fun j =>
  (Host.argReduce reducer_argmin_f32_i32 d (iotaInDim S4096x1024 32 1) (constant S_ .f32 0x7F800000#32) (constantI S_ 32 0#32)
    reducesTo_S4096x1024_S4096_d1 h_S_ j).2

/-- A code with negative values counted from the end, as a column. -/
def wrapF (code : IVec S4096 32) : IVec S4096x1 32 :=
  broadcastInDim S4096x1 ![0] bcast_S4096_S4096x1_0
    (select (cmpi .slt code (broadcastInDim S4096 ![] bcast_S_S4096 (constantI S_ 32 0#32)))
      (addi code (broadcastInDim S4096 ![] bcast_S_S4096 (constantI S_ 32 1024#32))) code)

/-- The rows of `cb` that the codes name. -/
def takeF (cb : FVec Ideal S1024x64 .bf16) (code : IVec S4096 32) : FVec Ideal S4096x64 .bf16 :=
  select
    (broadcastInDim S4096x64 ![0] bcast_S4096_S4096x64_0
      (Host.reduce IntOp.andi
        (andi (cmpi .sge (wrapF code) (broadcastInDim S4096x1 ![] bcast_S_S4096x1 (constantI S_ 32 0#32)))
          (cmpi .sle (wrapF code) (broadcastInDim S4096x1 ![0, 1] bcast_S1x1_S4096x1_0_1
            (broadcastInDim S1x1 ![1] bcast_S1_S1x1_1 (constantI S1 32 1023#32)))))
        (constantI S_ 1 1#1) reducesTo_S4096x1_S4096_d1 h_S_))
    (Host.gather gather_S1024x64_S4096x1_S4096x64_1_0_n_n_0_1_164 cb (wrapF code))
    (broadcastInDim S4096x64 ![] bcast_S_S4096x64 (constant S_ .bf16 0x7FC0#16))

/-- The residual left by a level. -/
def nextF (x : FVec Ideal S4096x64 .bf16) (cb : FVec Ideal S1024x64 .bf16) : FVec Ideal S4096x64 .bf16 :=
  subf x (takeF cb (argF (distF x cb)))

/-- The one-hot rows of four code columns. -/
def hotF (c0 c1 c2 c3 : IVec S4096 32) : FVec Ideal S4096x4x1024 .f32 :=
  uitofp .f32 (cmpi .eq
    (broadcastInDim S4096x4x1024 ![0, 1, 2] bcast_S4096x4x1_S4096x4x1024_0_1_2
      (broadcastInDim S4096x4x1 ![0, 1] bcast_S4096x4_S4096x4x1_0_1
        (concatenate S4096x4 1 [⟨S4096x1, broadcastInDim S4096x1 ![0] bcast_S4096_S4096x1_0 c0⟩,
          ⟨S4096x1, broadcastInDim S4096x1 ![0] bcast_S4096_S4096x1_0 c1⟩,
          ⟨S4096x1, broadcastInDim S4096x1 ![0] bcast_S4096_S4096x1_0 c2⟩,
          ⟨S4096x1, broadcastInDim S4096x1 ![0] bcast_S4096_S4096x1_0 c3⟩]
          concatenates_S4096x1_S4096x1_S4096x1_S4096x1_S4096x4_d1)))
    (broadcastInDim S4096x4x1024 ![0, 1, 2] bcast_S1x1x1024_S4096x4x1024_0_1_2 (iotaInDim S1x1x1024 32 2)))

/-- The entries above zero, minus infinity elsewhere. -/
def maskF (p : FVec Ideal S4096x4x1024 .f32) : FVec Ideal S4096x4x1024 .f32 :=
  select (cmpf .ogt p (broadcastInDim S4096x4x1024 ![] bcast_S_S4096x4x1024 (constant S_ .f32 0x00000000#32))) p
    (broadcastInDim S4096x4x1024 ![] bcast_S_S4096x4x1024 (constant S_ .f32 0xFF800000#32))

variable (V : Valuation τ sig (Elt Ideal))

set_option maxHeartbeats 1600000 in
/-- Level 0's distances. -/
theorem d0_d : after d0Ops V (Proc.devRef .tc main_v19) =
    distF (V (Proc.devRef .tc main_v0)) (cbF cut0 (V (Proc.devRef .tc main_v1))) := by
  after_reads_simp
  simp -implicitDefEqProofs only [TRef.toBuf, TRef.ofBuf, cast_cast, cast_eq]
  rfl

set_option maxHeartbeats 1600000 in
/-- Level 0's codebook. -/
theorem d0_cb : after d0Ops V (Proc.devRef .tc main_v3) =
    cbF cut0 (V (Proc.devRef .tc main_v1)) := by
  after_reads_simp
  simp -implicitDefEqProofs only [TRef.toBuf, TRef.ofBuf, cast_cast, cast_eq]
  rfl

set_option maxHeartbeats 1600000 in
/-- Level 0's codes. -/
theorem a0_code : after a0Ops V (Proc.devRef .tc main_v20) =
    argF (V (Proc.devRef .tc main_v19)) := by
  after_reads_simp
  simp -implicitDefEqProofs only [TRef.toBuf, TRef.ofBuf, cast_cast, cast_eq]
  rfl

set_option maxHeartbeats 1600000 in
/-- Level 0's next residual. -/
theorem t0_x : after t0Ops V (Proc.devRef .tc main_v22) =
    subf (V (Proc.devRef .tc main_v0) : FVec Ideal S4096x64 .bf16) (takeF (V (Proc.devRef .tc main_v3)) (V (Proc.devRef .tc main_v20))) := by
  after_reads_simp
  simp -implicitDefEqProofs only [TRef.toBuf, TRef.ofBuf, cast_cast, cast_eq]
  rfl

set_option maxHeartbeats 1600000 in
/-- Level 1's distances. -/
theorem d1_d : after d1Ops V (Proc.devRef .tc main_v40) =
    distF (V (Proc.devRef .tc main_v22)) (cbF cut1 (V (Proc.devRef .tc main_v1))) := by
  after_reads_simp
  simp -implicitDefEqProofs only [TRef.toBuf, TRef.ofBuf, cast_cast, cast_eq]
  rfl

set_option maxHeartbeats 1600000 in
/-- Level 1's codebook. -/
theorem d1_cb : after d1Ops V (Proc.devRef .tc main_v24) =
    cbF cut1 (V (Proc.devRef .tc main_v1)) := by
  after_reads_simp
  simp -implicitDefEqProofs only [TRef.toBuf, TRef.ofBuf, cast_cast, cast_eq]
  rfl

set_option maxHeartbeats 1600000 in
/-- Level 1's codes. -/
theorem a1_code : after a1Ops V (Proc.devRef .tc main_v41) =
    argF (V (Proc.devRef .tc main_v40)) := by
  after_reads_simp
  simp -implicitDefEqProofs only [TRef.toBuf, TRef.ofBuf, cast_cast, cast_eq]
  rfl

set_option maxHeartbeats 1600000 in
/-- Level 1's next residual. -/
theorem t1_x : after t1Ops V (Proc.devRef .tc main_v43) =
    subf (V (Proc.devRef .tc main_v22) : FVec Ideal S4096x64 .bf16) (takeF (V (Proc.devRef .tc main_v24)) (V (Proc.devRef .tc main_v41))) := by
  after_reads_simp
  simp -implicitDefEqProofs only [TRef.toBuf, TRef.ofBuf, cast_cast, cast_eq]
  rfl

set_option maxHeartbeats 1600000 in
/-- Level 2's distances. -/
theorem d2_d : after d2Ops V (Proc.devRef .tc main_v61) =
    distF (V (Proc.devRef .tc main_v43)) (cbF cut2 (V (Proc.devRef .tc main_v1))) := by
  after_reads_simp
  simp -implicitDefEqProofs only [TRef.toBuf, TRef.ofBuf, cast_cast, cast_eq]
  rfl

set_option maxHeartbeats 1600000 in
/-- Level 2's codebook. -/
theorem d2_cb : after d2Ops V (Proc.devRef .tc main_v45) =
    cbF cut2 (V (Proc.devRef .tc main_v1)) := by
  after_reads_simp
  simp -implicitDefEqProofs only [TRef.toBuf, TRef.ofBuf, cast_cast, cast_eq]
  rfl

set_option maxHeartbeats 1600000 in
/-- Level 2's codes. -/
theorem a2_code : after a2Ops V (Proc.devRef .tc main_v62) =
    argF (V (Proc.devRef .tc main_v61)) := by
  after_reads_simp
  simp -implicitDefEqProofs only [TRef.toBuf, TRef.ofBuf, cast_cast, cast_eq]
  rfl

set_option maxHeartbeats 1600000 in
/-- Level 2's next residual. -/
theorem t2_x : after t2Ops V (Proc.devRef .tc main_v64) =
    subf (V (Proc.devRef .tc main_v43) : FVec Ideal S4096x64 .bf16) (takeF (V (Proc.devRef .tc main_v45)) (V (Proc.devRef .tc main_v62))) := by
  after_reads_simp
  simp -implicitDefEqProofs only [TRef.toBuf, TRef.ofBuf, cast_cast, cast_eq]
  rfl

set_option maxHeartbeats 1600000 in
/-- Level 3's distances. -/
theorem d3_d : after d3Ops V (Proc.devRef .tc main_v82) =
    distF (V (Proc.devRef .tc main_v64)) (cbF cut3 (V (Proc.devRef .tc main_v1))) := by
  after_reads_simp
  simp -implicitDefEqProofs only [TRef.toBuf, TRef.ofBuf, cast_cast, cast_eq]
  rfl

set_option maxHeartbeats 1600000 in
/-- Level 3's codebook. -/
theorem d3_cb : after d3Ops V (Proc.devRef .tc main_v66) =
    cbF cut3 (V (Proc.devRef .tc main_v1)) := by
  after_reads_simp
  simp -implicitDefEqProofs only [TRef.toBuf, TRef.ofBuf, cast_cast, cast_eq]
  rfl

set_option maxHeartbeats 1600000 in
/-- Level 3's codes. -/
theorem a3_code : after a3Ops V (Proc.devRef .tc main_v83) =
    argF (V (Proc.devRef .tc main_v82)) := by
  after_reads_simp
  simp -implicitDefEqProofs only [TRef.toBuf, TRef.ofBuf, cast_cast, cast_eq]
  rfl

set_option maxHeartbeats 1600000 in
/-- Level 3's next residual. -/
theorem t3_x : after t3Ops V (Proc.devRef .tc main_v85) =
    subf (V (Proc.devRef .tc main_v64) : FVec Ideal S4096x64 .bf16) (takeF (V (Proc.devRef .tc main_v66)) (V (Proc.devRef .tc main_v83))) := by
  after_reads_simp
  simp -implicitDefEqProofs only [TRef.toBuf, TRef.ofBuf, cast_cast, cast_eq]
  rfl

set_option maxHeartbeats 1600000 in
/-- Level 0's codes, from the residual before it. -/
theorem l0_code : after l0Ops V (Proc.devRef .tc main_v20) = argF (distF (V (Proc.devRef .tc main_v0)) (cbF cut0 (V (Proc.devRef .tc main_v1)))) := by
  rw [after_append, after_append]
  have h : after t0Ops (after a0Ops (after d0Ops V)) (Proc.devRef .tc main_v20) = after a0Ops (after d0Ops V) (Proc.devRef .tc main_v20) := by
    after_reads_simp
  rw [h, a0_code, d0_d]

set_option maxHeartbeats 1600000 in
/-- The residual after level 0. -/
theorem l0_x : after l0Ops V (Proc.devRef .tc main_v22) = nextF (V (Proc.devRef .tc main_v0)) (cbF cut0 (V (Proc.devRef .tc main_v1))) := by
  rw [after_append, after_append, t0_x, a0_code, d0_d]
  have h1 : after a0Ops (after d0Ops V) (Proc.devRef .tc main_v3) = after d0Ops V (Proc.devRef .tc main_v3) := by after_reads_simp
  have h2 : after a0Ops (after d0Ops V) (Proc.devRef .tc main_v0) = V (Proc.devRef .tc main_v0) := by after_reads_simp
  rw [h1, h2, d0_cb]
  rfl

/-- Level 0 leaves the codebooks. -/
theorem l0_cbs : after l0Ops V (Proc.devRef .tc main_v1) = V (Proc.devRef .tc main_v1) := by after_reads_simp

set_option maxHeartbeats 1600000 in
/-- Level 1's codes, from the residual before it. -/
theorem l1_code : after l1Ops V (Proc.devRef .tc main_v41) = argF (distF (V (Proc.devRef .tc main_v22)) (cbF cut1 (V (Proc.devRef .tc main_v1)))) := by
  rw [after_append, after_append]
  have h : after t1Ops (after a1Ops (after d1Ops V)) (Proc.devRef .tc main_v41) = after a1Ops (after d1Ops V) (Proc.devRef .tc main_v41) := by
    after_reads_simp
  rw [h, a1_code, d1_d]

set_option maxHeartbeats 1600000 in
/-- The residual after level 1. -/
theorem l1_x : after l1Ops V (Proc.devRef .tc main_v43) = nextF (V (Proc.devRef .tc main_v22)) (cbF cut1 (V (Proc.devRef .tc main_v1))) := by
  rw [after_append, after_append, t1_x, a1_code, d1_d]
  have h1 : after a1Ops (after d1Ops V) (Proc.devRef .tc main_v24) = after d1Ops V (Proc.devRef .tc main_v24) := by after_reads_simp
  have h2 : after a1Ops (after d1Ops V) (Proc.devRef .tc main_v22) = V (Proc.devRef .tc main_v22) := by after_reads_simp
  rw [h1, h2, d1_cb]
  rfl

/-- Level 1 leaves the codebooks. -/
theorem l1_cbs : after l1Ops V (Proc.devRef .tc main_v1) = V (Proc.devRef .tc main_v1) := by after_reads_simp

/-- Level 1 leaves level 0's codes. -/
theorem l1_c0 : after l1Ops V (Proc.devRef .tc main_v20) = V (Proc.devRef .tc main_v20) := by after_reads_simp

set_option maxHeartbeats 1600000 in
/-- Level 2's codes, from the residual before it. -/
theorem l2_code : after l2Ops V (Proc.devRef .tc main_v62) = argF (distF (V (Proc.devRef .tc main_v43)) (cbF cut2 (V (Proc.devRef .tc main_v1)))) := by
  rw [after_append, after_append]
  have h : after t2Ops (after a2Ops (after d2Ops V)) (Proc.devRef .tc main_v62) = after a2Ops (after d2Ops V) (Proc.devRef .tc main_v62) := by
    after_reads_simp
  rw [h, a2_code, d2_d]

set_option maxHeartbeats 1600000 in
/-- The residual after level 2. -/
theorem l2_x : after l2Ops V (Proc.devRef .tc main_v64) = nextF (V (Proc.devRef .tc main_v43)) (cbF cut2 (V (Proc.devRef .tc main_v1))) := by
  rw [after_append, after_append, t2_x, a2_code, d2_d]
  have h1 : after a2Ops (after d2Ops V) (Proc.devRef .tc main_v45) = after d2Ops V (Proc.devRef .tc main_v45) := by after_reads_simp
  have h2 : after a2Ops (after d2Ops V) (Proc.devRef .tc main_v43) = V (Proc.devRef .tc main_v43) := by after_reads_simp
  rw [h1, h2, d2_cb]
  rfl

/-- Level 2 leaves the codebooks. -/
theorem l2_cbs : after l2Ops V (Proc.devRef .tc main_v1) = V (Proc.devRef .tc main_v1) := by after_reads_simp

/-- Level 2 leaves level 0's codes. -/
theorem l2_c0 : after l2Ops V (Proc.devRef .tc main_v20) = V (Proc.devRef .tc main_v20) := by after_reads_simp

/-- Level 2 leaves level 1's codes. -/
theorem l2_c1 : after l2Ops V (Proc.devRef .tc main_v41) = V (Proc.devRef .tc main_v41) := by after_reads_simp

set_option maxHeartbeats 1600000 in
/-- Level 3's codes, from the residual before it. -/
theorem l3_code : after l3Ops V (Proc.devRef .tc main_v83) = argF (distF (V (Proc.devRef .tc main_v64)) (cbF cut3 (V (Proc.devRef .tc main_v1)))) := by
  rw [after_append, after_append]
  have h : after t3Ops (after a3Ops (after d3Ops V)) (Proc.devRef .tc main_v83) = after a3Ops (after d3Ops V) (Proc.devRef .tc main_v83) := by
    after_reads_simp
  rw [h, a3_code, d3_d]

/-- Level 3 leaves level 0's codes. -/
theorem l3_c0 : after l3Ops V (Proc.devRef .tc main_v20) = V (Proc.devRef .tc main_v20) := by after_reads_simp

/-- Level 3 leaves level 1's codes. -/
theorem l3_c1 : after l3Ops V (Proc.devRef .tc main_v41) = V (Proc.devRef .tc main_v41) := by after_reads_simp

/-- Level 3 leaves level 2's codes. -/
theorem l3_c2 : after l3Ops V (Proc.devRef .tc main_v62) = V (Proc.devRef .tc main_v62) := by after_reads_simp

set_option maxHeartbeats 1600000 in
/-- The last line's one-hot rows. -/
theorem tail_hot : after tailOps V (Proc.devRef .tc main_v91) = hotF (V (Proc.devRef .tc main_v20)) (V (Proc.devRef .tc main_v41)) (V (Proc.devRef .tc main_v62)) (V (Proc.devRef .tc main_v83)) := by
  after_reads_simp
  simp -implicitDefEqProofs only [TRef.toBuf, TRef.ofBuf, cast_cast, cast_eq]
  rfl

set_option maxHeartbeats 1600000 in
/-- The last line's masked rows. -/
theorem tail_mask : after tailOps V (Proc.devRef .tc main_v94) = maskF (hotF (V (Proc.devRef .tc main_v20)) (V (Proc.devRef .tc main_v41)) (V (Proc.devRef .tc main_v62)) (V (Proc.devRef .tc main_v83))) := by
  after_reads_simp
  simp -implicitDefEqProofs only [TRef.toBuf, TRef.ofBuf, cast_cast, cast_eq]
  rfl

/-- The rounded rows. -/
abbrev inX (a : FVec Ideal S4096x64 .f32) : FVec Ideal S4096x64 .bf16 := truncf .bf16 a bitsLt_bf16_f32
/-- The rounded codebooks. -/
abbrev inC (a : FVec Ideal S4x1024x64 .f32) : FVec Ideal S4x1024x64 .bf16 := truncf .bf16 a bitsLt_bf16_f32

/-- The first line's rounded rows. -/
theorem head_x : after headOps V (Proc.devRef .tc main_v0) = inX (V (Proc.devRef .tc main_arg0)) := by
  after_reads_simp

/-- The first line's rounded codebooks. -/
theorem head_cbs : after headOps V (Proc.devRef .tc main_v1) = inC (V (Proc.devRef .tc main_arg1)) := by
  after_reads_simp

section Chain

variable (x : FVec Ideal S4096x64 .bf16) (cbs : FVec Ideal S4x1024x64 .bf16)

/-- The residuals before levels 1, 2 and 3. -/
def res1 : FVec Ideal S4096x64 .bf16 := nextF x (cbF cut0 cbs)
@[inherit_doc res1] def res2 : FVec Ideal S4096x64 .bf16 := nextF (res1 x cbs) (cbF cut1 cbs)
@[inherit_doc res1] def res3 : FVec Ideal S4096x64 .bf16 := nextF (res2 x cbs) (cbF cut2 cbs)

/-- The codes of the four levels. -/
def code0 : IVec S4096 32 := argF (distF x (cbF cut0 cbs))
@[inherit_doc code0] def code1 : IVec S4096 32 := argF (distF (res1 x cbs) (cbF cut1 cbs))
@[inherit_doc code0] def code2 : IVec S4096 32 := argF (distF (res2 x cbs) (cbF cut2 cbs))
@[inherit_doc code0] def code3 : IVec S4096 32 := argF (distF (res3 x cbs) (cbF cut3 cbs))

/-- The one-hot rows of the four codes. -/
def hot : FVec Ideal S4096x4x1024 .f32 := hotF (code0 x cbs) (code1 x cbs) (code2 x cbs) (code3 x cbs)

end Chain

set_option maxHeartbeats 1600000 in
/-- The second result of the whole line. -/
theorem after_hot : after ops V (Proc.devRef .tc main_v91) = hot (inX (V (Proc.devRef .tc main_arg0))) (inC (V (Proc.devRef .tc main_arg1))) := by
  unfold ops
  rw [after_append, after_append, after_append, after_append, after_append, tail_hot]
  rw [l3_c0, l3_c1, l3_c2, l3_code, l2_c0, l2_c1, l2_code, l2_x, l2_cbs, l1_c0, l1_code, l1_x, l1_cbs, l0_code, l0_x, l0_cbs, head_x, head_cbs]
  rfl

set_option maxHeartbeats 1600000 in
/-- The first result of the whole line. -/
theorem after_mask : after ops V (Proc.devRef .tc main_v94) = maskF (hot (inX (V (Proc.devRef .tc main_arg0))) (inC (V (Proc.devRef .tc main_arg1)))) := by
  unfold ops
  rw [after_append, after_append, after_append, after_append, after_append, tail_mask]
  rw [l3_c0, l3_c1, l3_c2, l3_code, l2_c0, l2_c1, l2_code, l2_x, l2_cbs, l1_c0, l1_code, l1_x, l1_cbs, l0_code, l0_x, l0_cbs, head_x, head_cbs]
  rfl

/-- The line leaves the first argument. -/
theorem after_arg0 : after ops V (Proc.devRef .tc main_arg0) = V (Proc.devRef .tc main_arg0) := by after_reads_simp
/-- The line leaves the second argument. -/
theorem after_arg1 : after ops V (Proc.devRef .tc main_arg1) = V (Proc.devRef .tc main_arg1) := by after_reads_simp

set_option maxHeartbeats 1600000 in
/-- The run of the reference: both results and both arguments at the end, and no semaphore counter left. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD,
        r.2.mem ((c.tc : Thread nD τ).loc main_v94) = maskF (hot (inX (m ((c.tc : Thread nD τ).loc main_arg0))) (inC (m ((c.tc : Thread nD τ).loc main_arg1))))
        ∧ r.2.mem ((c.tc : Thread nD τ).loc main_v91) = hot (inX (m ((c.tc : Thread nD τ).loc main_arg0))) (inC (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run_hlo _ _ (fun d => isSeq d) (by decide) (by decide) ?_ ?_ m g) fun r h => ⟨fun c => ⟨?_, ?_, ?_, ?_⟩, ?_⟩
  · simp [ops, headOps, distOps, argOps, takeOps, tailOps, hotOps, maskOps]
  · intro op hop; fin_cases hop <;> rfl
  · rw [h c main_v94, after_mask]
  · rw [h c main_v91, after_hot]
  · rw [h c main_arg0, after_arg0]
  · rw [h c main_arg1, after_arg1]
  · exact sem_eq_zero_of_no_sems (by decide) _

end Cert.Proof.Ref

end
-- ==== Proof.RefVal.lean ====
/- The reference's two results at an element: row by row, over the mathematics of one row. -/
module

public import proofs.«01_k».proof.Proof.RefRun
public import proofs.«01_k».proof.Proof.ArgMin
public import Idealize.ShloMosaic.Lib.Pipeline.ValueKit

@[expose] public section

set_option maxRecDepth 16384

noncomputable section

namespace Cert.Proof.Ref

open Idealize.ShloMosaic Idealize.ShloMosaic.StableHlo Cert.ReferenceIdeal Cert.ReferenceIdeal.Facts₀ Cert.Proof.Row

set_option maxHeartbeats 1600000 in
/-- The distances are the row's distances. -/
theorem distF_at (x : FVec Ideal S4096x64 .bf16) (cb : FVec Ideal S1024x64 .bf16) (i : Fin 4096) (k : Fin 1024) :
    distF x cb (ix2 i k) = dist (fun d => x (ix2 i d)) (fun k d => cb (ix2 k d)) k := by
  pointwise [distF]
  rfl

/-- The four codebooks, read off the stacked array. -/
theorem cbF0_at (cbs : FVec Ideal S4x1024x64 .bf16) (k : Fin 1024) (d : Fin 64) : cbF cut0 cbs (ix2 k d) = cbs (ix3 0 k d) := by
  pointwise [cbF, cut0]
@[inherit_doc cbF0_at]
theorem cbF1_at (cbs : FVec Ideal S4x1024x64 .bf16) (k : Fin 1024) (d : Fin 64) : cbF cut1 cbs (ix2 k d) = cbs (ix3 1 k d) := by
  pointwise [cbF, cut1]
@[inherit_doc cbF0_at]
theorem cbF2_at (cbs : FVec Ideal S4x1024x64 .bf16) (k : Fin 1024) (d : Fin 64) : cbF cut2 cbs (ix2 k d) = cbs (ix3 2 k d) := by
  pointwise [cbF, cut2]
@[inherit_doc cbF0_at]
theorem cbF3_at (cbs : FVec Ideal S4x1024x64 .bf16) (k : Fin 1024) (d : Fin 64) : cbF cut3 cbs (ix2 k d) = cbs (ix3 3 k d) := by
  pointwise [cbF, cut3]

/-- A row of the distances is what the arg-min reads at that row. -/
theorem drop_iff (i : Fin 4096) (p : S4096x1024.Idx) :
    reducesTo_S4096x1024_S4096_d1.drop p = ix1 i ↔ ∃ k : Fin 1024, p = ix2 i k := by
  have h0 := Shape.ReducesTo.drop_apply_val_of_eq reducesTo_S4096x1024_S4096_d1 p 0 0
  constructor
  · intro h
    rw [h] at h0
    exact ⟨p 1, (eq_ix2 p).trans (congrArg (fun a => ix2 a (p 1)) (Fin.ext h0.symm))⟩
  · rintro ⟨k, rfl⟩
    funext b
    match b with
    | ⟨0, _⟩ => exact Fin.ext h0

/-- The arg-min's start is plus infinity. -/
theorem start_at (i : S_.Idx) : constant (F := Ideal) S_ .f32 0x7F800000#32 i = ⊤ := by
  rw [← ofBits_inf]; rfl

/-- The numbers beside the distances are their columns. -/
theorem iota_at (i : Fin 4096) (k : Fin 1024) : iotaInDim S4096x1024 32 1 (ix2 i k) = BitVec.ofNat 32 (k : ℕ) := by
  pointwise

/-- The arg-min of a row, its starts and its column numbers being any arrays with the right entries. -/
theorem argmin_at (d : FVec Ideal S4096x1024 .f32) (i : Fin 4096) (y : IVec S4096x1024 32) (ix : FVec Ideal S_ .f32)
    (iy : IVec S_ 32) (h1 : ∀ i, ix i = ⊤) (h2 : ∀ i, iy i = 0#32)
    (h4 : ∀ k : Fin 1024, y (ix2 i k) = BitVec.ofNat 32 (k : ℕ)) :
    (Host.argReduce reducer_argmin_f32_i32 d y ix iy reducesTo_S4096x1024_S4096_d1 h_S_ (ix1 i)).2
      = BitVec.ofNat 32 (code (fun k => d (ix2 i k)) : ℕ) := by
  exact argReduce_code picks_reducer d y ix iy reducesTo_S4096x1024_S4096_d1 h_S_ (ix1 i) (fun k => d (ix2 i k)) h1 h2
    (fun k => ix2 i k) (drop_iff i) (fun _ => rfl) h4

/-- The arg-min as a function of the result's index. -/
theorem argF_eq (d : FVec Ideal S4096x1024 .f32) : argF d = fun j =>
    (Host.argReduce reducer_argmin_f32_i32 d (iotaInDim S4096x1024 32 1) (constant (F := Ideal) S_ .f32 0x7F800000#32)
      (constantI S_ 32 0#32) reducesTo_S4096x1024_S4096_d1 h_S_ j).2 := rfl

/-- The arg-min of a row is the first index at which the row is least. -/
theorem argF_at (d : FVec Ideal S4096x1024 .f32) (i : Fin 4096) :
    argF d (ix1 i) = BitVec.ofNat 32 (code (fun k => d (ix2 i k)) : ℕ) :=
  (congrFun (argF_eq d) (ix1 i)).trans (argmin_at d i (iotaInDim S4096x1024 32 1) (constant (F := Ideal) S_ .f32 0x7F800000#32)
    (constantI S_ 32 0#32) start_at (fun _ => rfl) (iota_at i))

set_option maxHeartbeats 1600000 in
/-- A code below 1024 is left as it is. -/
theorem wrapF_at (w : IVec S4096 32) (i : Fin 4096) (c : Fin 1024) (h : w (ix1 i) = BitVec.ofNat 32 (c : ℕ)) :
    wrapF w (ix2 i 0) = BitVec.ofNat 32 (c : ℕ) := by
  pointwise [wrapF]
  rw [h, not_neg]
  rfl

set_option maxHeartbeats 1600000 in
/-- The row a code below 1024 names. -/
theorem takeF_at (cb : FVec Ideal S1024x64 .bf16) (w : IVec S4096 32) (i : Fin 4096) (d : Fin 64) (c : Fin 1024)
    (h : w (ix1 i) = BitVec.ofNat 32 (c : ℕ)) : takeF cb w (ix2 i d) = cb (ix2 c d) := by
  have hg : Host.gather gather_S1024x64_S4096x1_S4096x64_1_0_n_n_0_1_164 cb (wrapF w) (ix2 i d) = cb (ix2 c d) :=
    Routing.gather_row gather_S1024x64_S4096x1_S4096x64_1_0_n_n_0_1_164 rfl rfl rfl rfl rfl cb (wrapF w) i d c (wrapF_at w i c h) (by decide)
  generalize hG : Host.gather gather_S1024x64_S4096x1_S4096x64_1_0_n_n_0_1_164 cb (wrapF w) = G at hg
  have hw := wrapF_at w i c h
  unfold takeF
  rw [hG]
  generalize wrapF w = W at hw
  pointwise
  rw [Finset.univ_unique, Finset.fold_singleton, Fin.default_eq_zero, hw, hg, ge_zero, le_last]
  rfl

set_option maxHeartbeats 1600000 in
/-- The one-hot rows of four code columns. -/
theorem hotF_at (c0 c1 c2 c3 : IVec S4096 32) (i : Fin 4096) (l : Fin 4) (k : Fin 1024) (c : Fin 4 → Fin 1024)
    (h0 : c0 (ix1 i) = BitVec.ofNat 32 (c 0 : ℕ)) (h1 : c1 (ix1 i) = BitVec.ofNat 32 (c 1 : ℕ))
    (h2 : c2 (ix1 i) = BitVec.ofNat 32 (c 2 : ℕ)) (h3 : c3 (ix1 i) = BitVec.ofNat 32 (c 3 : ℕ)) :
    hotF c0 c1 c2 c3 (ix3 i l k) = if c l = k then 1 else 0 := by
  pointwise [hotF]
  rw [h0, h1, h2, h3, ← hot_bit]
  congr 2
  fin_cases l <;> rfl

set_option maxHeartbeats 1600000 in
/-- The entries above zero, the mask's constant elsewhere. -/
theorem maskF_at (p : FVec Ideal S4096x4x1024 .f32) (i : Fin 4096) (l : Fin 4) (k : Fin 1024) :
    maskF p (ix3 i l k) = if 0 < p (ix3 i l k) then p (ix3 i l k) else Ideal.ofBits FTy.f32 4286578688#32 := by
  pointwise [maskF]

section Rows

variable (x : FVec Ideal S4096x64 .bf16) (cbs : FVec Ideal S4x1024x64 .bf16) (i : Fin 4096)

/-- Row `i` of the input. -/
abbrev rowOf : Fin 64 → EReal := fun d => x (ix2 i d)
/-- The four codebooks, by level. -/
abbrev booksOf : Fin 4 → Fin 1024 → Fin 64 → EReal := fun l k d => cbs (ix3 l k d)

/-- The code of a level, from its residual row and its codebook. -/
theorem code_at (cb : FVec Ideal S1024x64 .bf16) (r : Fin 64 → EReal) (B : Fin 1024 → Fin 64 → EReal)
    (hr : ∀ d, x (ix2 i d) = r d) (hB : ∀ k d, cb (ix2 k d) = B k d) :
    argF (distF x cb) (ix1 i) = BitVec.ofNat 32 (code (dist r B) : ℕ) := by
  obtain rfl : (fun d => x (ix2 i d)) = r := funext hr
  obtain rfl : (fun k d => cb (ix2 k d)) = B := funext fun k => funext fun d => hB k d
  rw [argF_at, funext fun k => distF_at x cb i k]

/-- The residual a level leaves, from its residual row and its codebook. -/
theorem next_at (cb : FVec Ideal S1024x64 .bf16) (r : Fin 64 → EReal) (B : Fin 1024 → Fin 64 → EReal)
    (hr : ∀ d, x (ix2 i d) = r d) (hB : ∀ k d, cb (ix2 k d) = B k d) (d : Fin 64) :
    nextF x cb (ix2 i d) = next r B d := by
  unfold next
  rw [← hr, ← hB, ← takeF_at cb _ i d _ (code_at x i cb r B hr hB)]
  rfl

/-- The residuals before the later levels. -/
theorem res1_at (d : Fin 64) : res1 x cbs (ix2 i d) = res (rowOf x i) (booksOf cbs) 1 d :=
  next_at x i _ _ _ (fun _ => rfl) (cbF0_at cbs) d
@[inherit_doc res1_at]
theorem res2_at (d : Fin 64) : res2 x cbs (ix2 i d) = res (rowOf x i) (booksOf cbs) 2 d :=
  next_at _ i _ _ _ (res1_at x cbs i) (cbF1_at cbs) d
@[inherit_doc res1_at]
theorem res3_at (d : Fin 64) : res3 x cbs (ix2 i d) = res (rowOf x i) (booksOf cbs) 3 d :=
  next_at _ i _ _ _ (res2_at x cbs i) (cbF2_at cbs) d

/-- The one-hot result: 1 at the row's code of the level, 0 elsewhere. -/
theorem hot_at (l : Fin 4) (k : Fin 1024) :
    hot x cbs (ix3 i l k) = if codeAt (rowOf x i) (booksOf cbs) l = k then 1 else 0 :=
  hotF_at _ _ _ _ i l k _ (code_at x i _ _ _ (fun _ => rfl) (cbF0_at cbs)) (code_at _ i _ _ _ (res1_at x cbs i) (cbF1_at cbs))
    (code_at _ i _ _ _ (res2_at x cbs i) (cbF2_at cbs)) (code_at _ i _ _ _ (res3_at x cbs i) (cbF3_at cbs))

/-- The masked result: 1 at the row's code of the level, the mask's constant elsewhere. -/
theorem mask_at (l : Fin 4) (k : Fin 1024) :
    maskF (hot x cbs) (ix3 i l k)
      = if codeAt (rowOf x i) (booksOf cbs) l = k then 1 else Ideal.ofBits FTy.f32 4286578688#32 := by
  rw [maskF_at, hot_at]
  by_cases h : codeAt (rowOf x i) (booksOf cbs) l = k
  · rw [if_pos h, if_pos h, if_pos zero_lt_one]
  · rw [if_neg h, if_neg h, if_neg (lt_irrefl _)]

end Rows

end Cert.Proof.Ref

end
-- ==== Proof.Equation.lean ====
/- The kernel's run with its results in closed form, and the equation: the two programs' results are the same arrays. -/
module

public import proofs.«01_k».proof.Proof.Array
public import proofs.«01_k».proof.Proof.RefVal

@[expose] public section

set_option maxRecDepth 16384

noncomputable section

namespace Cert.Proof

open Idealize.ShloMosaic Idealize.ShloMosaic.TcCoe Idealize.SL.Sem Cert.KernelIdeal Cert.KernelIdeal.Gen Cert.Proof.Array

section Kernel

variable (m : (ℓ : Loc nD τ sig) → Buf (Elt Ideal) ℓ)

/-- A result of the kernel: an array regrouped by level. -/
def result (b : EReal) (c : Dev nD) : FVec Ideal S4096x4x1024 .f32 :=
  shapeCast S4096x4x1024 (arr m c b) shapeCasts_S4096x4096_S4096x4x1024

/-- Every run of the kernel ends with the two results in closed form and the arguments as they were. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = result m (Ideal.ofBits FTy.f32 4286578688#32) c
      ∧ r.2.mem ((c.tc : Thread nD τ).loc main_v6) = result m 0 c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun r h c =>
    ⟨((h.1 c).2 main_v5 (Pipeline.mem_restRefs_of main_v5 (by decide) (by decide))).trans (tail5 m c),
      ((h.1 c).2 main_v6 (Pipeline.mem_restRefs_of main_v6 (by decide) (by decide))).trans (tail6 m c), (h.2 c).1, (h.2 c).2⟩

/-- The reference's masked result over the kernel's arguments is the kernel's. -/
theorem masked_eq (c : Dev nD) : Ref.maskF (Ref.hot (Ref.inX (argX m c)) (Ref.inC (argC m c))) = result m (Ideal.ofBits FTy.f32 4286578688#32) c := by
  funext j
  rw [eq_ix3 j]
  exact (Ref.mask_at _ _ (j 0) (j 1) (j 2)).trans (split_at m c _ (j 0) (j 1) (j 2)).symm

/-- The reference's one-hot result over the kernel's arguments is the kernel's. -/
theorem hot_eq (c : Dev nD) : Ref.hot (Ref.inX (argX m c)) (Ref.inC (argC m c)) = result m 0 c := by
  funext j
  rw [eq_ix3 j]
  exact (Ref.hot_at _ _ (j 0) (j 1) (j 2)).trans (split_at m c _ (j 0) (j 1) (j 2)).symm

end Kernel

/-- Every run of the reference ends quiescent, its arguments as they were. -/
theorem reference_quiet : Cert.quiescent_ReferenceIdeal (hReferenceIdeal := Cert.ReferenceIdeal.Gen.facts) := fun m g _ =>
  θ_run_mono (Ref.run m g) fun _ h => ⟨fun c => ⟨(h.1 c).2.2.1, (h.1 c).2.2.2⟩, h.2⟩

/-- The two programs' results are equal, both of them, from any memories that agree on the arguments. -/
theorem equation : Cert.algebraic_KernelIdeal_ReferenceIdeal (hKernelIdeal := Cert.KernelIdeal.Gen.facts)
    (hReferenceIdeal := Cert.ReferenceIdeal.Gen.facts) := fun m g m' g' _ hag =>
  ⟨result m (Ideal.ofBits FTy.f32 4286578688#32), result m 0, kernel_run m g,
    θ_run_mono (Ref.run m' g') fun _ h c => ⟨by
      rw [(h.1 c).1, (hag c).1, (hag c).2]; exact masked_eq m c, by
      rw [(h.1 c).2.1, (hag c).1, (hag c).2]; exact hot_eq m c, (h.1 c).2.2.1, (h.1 c).2.2.2⟩⟩

end Cert.Proof

end
-- ==== Proof.lean ====
/- The proof of the certificate's claim, assembled from the modules under Proof/.
   `Math` and `ArgMin`: one row. `Block` and `Array`: what the kernel's blocks and arrays hold. `RefOps`, `RefRun`, `RefVal`:
   what the reference computes. `Equation`: the two programs' results are the same arrays. -/
module

public import proofs.«01_k».proof.Defs
public import proofs.«01_k».proof.Proof.Gen.Kernel.Frame
public import proofs.«01_k».proof.Proof.Equation

@[expose] public section

noncomputable section

namespace Cert.Proof

/-- Both kernels and the reference run quiescent with their arguments unchanged; the idealization is the kernel's own text;
    and the kernel's two results are the reference's. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_quiet, trivial, equation⟩

end Cert.Proof

end
